-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel)
    ∧ quiescent_KernelIdeal (hKernelIdeal := hKernelIdeal)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_well_formed.lean ====
abbrev S4096x8x16 : Shape := ⟨3, ![4096, 8, 16]⟩
abbrev S16x256 : Shape := ⟨2, ![16, 256]⟩
abbrev S256x256 : Shape := ⟨2, ![256, 256]⟩
abbrev S256 : Shape := ⟨1, ![256]⟩
abbrev S512x256 : Shape := ⟨2, ![512, 256]⟩
abbrev S7x28x2 : Shape := ⟨3, ![7, 28, 2]⟩
abbrev S_ : Shape := ⟨0, ![]⟩
abbrev S4096x8 : Shape := ⟨2, ![4096, 8]⟩
abbrev S4096 : Shape := ⟨1, ![4096]⟩

class Facts : Prop where
  bcast_S_S4096x8x16 : S_.BroadcastsInDim S4096x8x16 (![] : Fin 0 → Fin S4096x8x16.rank)
  reducesTo_S4096x8x16_S_d0_1_2 : S4096x8x16.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  reducesTo_S4096x8x16_S4096x8_d2 : S4096x8x16.ReducesTo [2] S4096x8
  reducesTo_S4096x8_S4096_d1 : S4096x8.ReducesTo [1] S4096
  bcast_S_S4096 : S_.BroadcastsInDim S4096 (![] : Fin 0 → Fin S4096.rank)
  reducesTo_S4096_S_d0 : S4096.ReducesTo [0] S_
  reducesTo_S7x28x2_S_d0_1_2 : S7x28x2.ReducesTo [0, 1, 2] S_

variable [Facts]

noncomputable abbrev lit0 : Fin 392 → BitVec 32 := fun
  | 0 => 0#32 | 1 => 1#32 | 2 => 4294967295#32 | 3 => 4294967295#32 | 4 => 4294967295#32 | 5 => 4294967295#32 | 6 => 4294967295#32 | 7 => 4294967295#32
  | 8 => 4294967295#32 | 9 => 4294967295#32 | 10 => 4294967295#32 | 11 => 4294967295#32 | 12 => 4294967295#32 | 13 => 4294967295#32 | 14 => 4294967295#32 | 15 => 4294967295#32
  | 16 => 4294967295#32 | 17 => 4294967295#32 | 18 => 4294967295#32 | 19 => 4294967295#32 | 20 => 4294967295#32 | 21 => 4294967295#32 | 22 => 4294967295#32 | 23 => 4294967295#32
  | 24 => 4294967295#32 | 25 => 4294967295#32 | 26 => 4294967295#32 | 27 => 4294967295#32 | 28 => 4294967295#32 | 29 => 4294967295#32 | 30 => 4294967295#32 | 31 => 4294967295#32
  | 32 => 4294967295#32 | 33 => 4294967295#32 | 34 => 4294967295#32 | 35 => 4294967295#32 | 36 => 4294967295#32 | 37 => 4294967295#32 | 38 => 4294967295#32 | 39 => 4294967295#32
  | 40 => 4294967295#32 | 41 => 4294967295#32 | 42 => 4294967295#32 | 43 => 4294967295#32 | 44 => 4294967295#32 | 45 => 4294967295#32 | 46 => 4294967295#32 | 47 => 4294967295#32
  | 48 => 4294967295#32 | 49 => 4294967295#32 | 50 => 4294967295#32 | 51 => 4294967295#32 | 52 => 4294967295#32 | 53 => 4294967295#32 | 54 => 4294967295#32 | 55 => 4294967295#32
  | 56 => 0#32 | 57 => 1#32 | 58 => 0#32 | 59 => 2#32 | 60 => 1#32 | 61 => 2#32 | 62 => 4294967295#32 | 63 => 4294967295#32
  | 64 => 4294967295#32 | 65 => 4294967295#32 | 66 => 4294967295#32 | 67 => 4294967295#32 | 68 => 4294967295#32 | 69 => 4294967295#32 | 70 => 4294967295#32 | 71 => 4294967295#32
  | 72 => 4294967295#32 | 73 => 4294967295#32 | 74 => 4294967295#32 | 75 => 4294967295#32 | 76 => 4294967295#32 | 77 => 4294967295#32 | 78 => 4294967295#32 | 79 => 4294967295#32
  | 80 => 4294967295#32 | 81 => 4294967295#32 | 82 => 4294967295#32 | 83 => 4294967295#32 | 84 => 4294967295#32 | 85 => 4294967295#32 | 86 => 4294967295#32 | 87 => 4294967295#32
  | 88 => 4294967295#32 | 89 => 4294967295#32 | 90 => 4294967295#32 | 91 => 4294967295#32 | 92 => 4294967295#32 | 93 => 4294967295#32 | 94 => 4294967295#32 | 95 => 4294967295#32
  | 96 => 4294967295#32 | 97 => 4294967295#32 | 98 => 4294967295#32 | 99 => 4294967295#32 | 100 => 4294967295#32 | 101 => 4294967295#32 | 102 => 4294967295#32 | 103 => 4294967295#32
  | 104 => 4294967295#32 | 105 => 4294967295#32 | 106 => 4294967295#32 | 107 => 4294967295#32 | 108 => 4294967295#32 | 109 => 4294967295#32 | 110 => 4294967295#32 | 111 => 4294967295#32
  | 112 => 0#32 | 113 => 1#32 | 114 => 0#32 | 115 => 2#32 | 116 => 0#32 | 117 => 3#32 | 118 => 1#32 | 119 => 2#32
  | 120 => 1#32 | 121 => 3#32 | 122 => 2#32 | 123 => 3#32 | 124 => 4294967295#32 | 125 => 4294967295#32 | 126 => 4294967295#32 | 127 => 4294967295#32
  | 128 => 4294967295#32 | 129 => 4294967295#32 | 130 => 4294967295#32 | 131 => 4294967295#32 | 132 => 4294967295#32 | 133 => 4294967295#32 | 134 => 4294967295#32 | 135 => 4294967295#32
  | 136 => 4294967295#32 | 137 => 4294967295#32 | 138 => 4294967295#32 | 139 => 4294967295#32 | 140 => 4294967295#32 | 141 => 4294967295#32 | 142 => 4294967295#32 | 143 => 4294967295#32
  | 144 => 4294967295#32 | 145 => 4294967295#32 | 146 => 4294967295#32 | 147 => 4294967295#32 | 148 => 4294967295#32 | 149 => 4294967295#32 | 150 => 4294967295#32 | 151 => 4294967295#32
  | 152 => 4294967295#32 | 153 => 4294967295#32 | 154 => 4294967295#32 | 155 => 4294967295#32 | 156 => 4294967295#32 | 157 => 4294967295#32 | 158 => 4294967295#32 | 159 => 4294967295#32
  | 160 => 4294967295#32 | 161 => 4294967295#32 | 162 => 4294967295#32 | 163 => 4294967295#32 | 164 => 4294967295#32 | 165 => 4294967295#32 | 166 => 4294967295#32 | 167 => 4294967295#32
  | 168 => 0#32 | 169 => 1#32 | 170 => 0#32 | 171 => 2#32 | 172 => 0#32 | 173 => 3#32 | 174 => 0#32 | 175 => 4#32
  | 176 => 1#32 | 177 => 2#32 | 178 => 1#32 | 179 => 3#32 | 180 => 1#32 | 181 => 4#32 | 182 => 2#32 | 183 => 3#32
  | 184 => 2#32 | 185 => 4#32 | 186 => 3#32 | 187 => 4#32 | 188 => 4294967295#32 | 189 => 4294967295#32 | 190 => 4294967295#32 | 191 => 4294967295#32
  | 192 => 4294967295#32 | 193 => 4294967295#32 | 194 => 4294967295#32 | 195 => 4294967295#32 | 196 => 4294967295#32 | 197 => 4294967295#32 | 198 => 4294967295#32 | 199 => 4294967295#32
  | 200 => 4294967295#32 | 201 => 4294967295#32 | 202 => 4294967295#32 | 203 => 4294967295#32 | 204 => 4294967295#32 | 205 => 4294967295#32 | 206 => 4294967295#32 | 207 => 4294967295#32
  | 208 => 4294967295#32 | 209 => 4294967295#32 | 210 => 4294967295#32 | 211 => 4294967295#32 | 212 => 4294967295#32 | 213 => 4294967295#32 | 214 => 4294967295#32 | 215 => 4294967295#32
  | 216 => 4294967295#32 | 217 => 4294967295#32 | 218 => 4294967295#32 | 219 => 4294967295#32 | 220 => 4294967295#32 | 221 => 4294967295#32 | 222 => 4294967295#32 | 223 => 4294967295#32
  | 224 => 0#32 | 225 => 1#32 | 226 => 0#32 | 227 => 2#32 | 228 => 0#32 | 229 => 3#32 | 230 => 0#32 | 231 => 4#32
  | 232 => 0#32 | 233 => 5#32 | 234 => 1#32 | 235 => 2#32 | 236 => 1#32 | 237 => 3#32 | 238 => 1#32 | 239 => 4#32
  | 240 => 1#32 | 241 => 5#32 | 242 => 2#32 | 243 => 3#32 | 244 => 2#32 | 245 => 4#32 | 246 => 2#32 | 247 => 5#32
  | 248 => 3#32 | 249 => 4#32 | 250 => 3#32 | 251 => 5#32 | 252 => 4#32 | 253 => 5#32 | 254 => 4294967295#32 | 255 => 4294967295#32
  | 256 => 4294967295#32 | 257 => 4294967295#32 | 258 => 4294967295#32 | 259 => 4294967295#32 | 260 => 4294967295#32 | 261 => 4294967295#32 | 262 => 4294967295#32 | 263 => 4294967295#32
  | 264 => 4294967295#32 | 265 => 4294967295#32 | 266 => 4294967295#32 | 267 => 4294967295#32 | 268 => 4294967295#32 | 269 => 4294967295#32 | 270 => 4294967295#32 | 271 => 4294967295#32
  | 272 => 4294967295#32 | 273 => 4294967295#32 | 274 => 4294967295#32 | 275 => 4294967295#32 | 276 => 4294967295#32 | 277 => 4294967295#32 | 278 => 4294967295#32 | 279 => 4294967295#32
  | 280 => 0#32 | 281 => 1#32 | 282 => 0#32 | 283 => 2#32 | 284 => 0#32 | 285 => 3#32 | 286 => 0#32 | 287 => 4#32
  | 288 => 0#32 | 289 => 5#32 | 290 => 0#32 | 291 => 6#32 | 292 => 1#32 | 293 => 2#32 | 294 => 1#32 | 295 => 3#32
  | 296 => 1#32 | 297 => 4#32 | 298 => 1#32 | 299 => 5#32 | 300 => 1#32 | 301 => 6#32 | 302 => 2#32 | 303 => 3#32
  | 304 => 2#32 | 305 => 4#32 | 306 => 2#32 | 307 => 5#32 | 308 => 2#32 | 309 => 6#32 | 310 => 3#32 | 311 => 4#32
  | 312 => 3#32 | 313 => 5#32 | 314 => 3#32 | 315 => 6#32 | 316 => 4#32 | 317 => 5#32 | 318 => 4#32 | 319 => 6#32
  | 320 => 5#32 | 321 => 6#32 | 322 => 4294967295#32 | 323 => 4294967295#32 | 324 => 4294967295#32 | 325 => 4294967295#32 | 326 => 4294967295#32 | 327 => 4294967295#32
  | 328 => 4294967295#32 | 329 => 4294967295#32 | 330 => 4294967295#32 | 331 => 4294967295#32 | 332 => 4294967295#32 | 333 => 4294967295#32 | 334 => 4294967295#32 | 335 => 4294967295#32
  | 336 => 0#32 | 337 => 1#32 | 338 => 0#32 | 339 => 2#32 | 340 => 0#32 | 341 => 3#32 | 342 => 0#32 | 343 => 4#32
  | 344 => 0#32 | 345 => 5#32 | 346 => 0#32 | 347 => 6#32 | 348 => 0#32 | 349 => 7#32 | 350 => 1#32 | 351 => 2#32
  | 352 => 1#32 | 353 => 3#32 | 354 => 1#32 | 355 => 4#32 | 356 => 1#32 | 357 => 5#32 | 358 => 1#32 | 359 => 6#32
  | 360 => 1#32 | 361 => 7#32 | 362 => 2#32 | 363 => 3#32 | 364 => 2#32 | 365 => 4#32 | 366 => 2#32 | 367 => 5#32
  | 368 => 2#32 | 369 => 6#32 | 370 => 2#32 | 371 => 7#32 | 372 => 3#32 | 373 => 4#32 | 374 => 3#32 | 375 => 5#32
  | 376 => 3#32 | 377 => 6#32 | 378 => 3#32 | 379 => 7#32 | 380 => 4#32 | 381 => 5#32 | 382 => 4#32 | 383 => 6#32
  | 384 => 4#32 | 385 => 7#32 | 386 => 5#32 | 387 => 6#32 | 388 => 5#32 | 389 => 7#32 | 390 => 6#32 | 391 => 7#32
  | _ => 0#32

def fn_part6 {F : FTy → Type} [FloatOps F] (main_v98 : IVec S_ 1) (main_v99 : IVec S7x28x2 1) (main_c_41 : IVec S_ 1) : IVec S_ 1 :=
  let main_v100 : IVec S_ 1 := (fun x v => Host.reduce IntOp.andi x v reducesTo_S7x28x2_S_d0_1_2 h_S_) main_v99 main_c_41
  let main_v101 : IVec S_ 1 := andi main_v98 main_v100
  main_v101

def fn_part5 {F : FTy → Type} [FloatOps F] (main_arg0 : FVec F S4096x8x16 .f32) (main_arg17 : FVec F S256 .f32) (main_arg19 : IVec S7x28x2 32) (main_c : IVec S7x28x2 32) (main_v79 : IVec S_ 1) (main_v83 : IVec S_ 1) : IVec S_ 1 :=
  let main_v84 : IVec S_ 1 := andi main_v79 main_v83
  let main_v85 : FVec F S256 .f32 := Host.absf main_arg17
  let main_cst_34 : FVec F S_ .f32 := constant S_ .f32 0x7F800000#32
  let main_v86 : FVec F S256 .f32 := broadcastInDim S256 ![] bcast_S_S256 main_cst_34
  let main_v87 : IVec S256 1 := cmpf .olt main_v85 main_v86
  let main_c_35 : IVec S_ 1 := constantI S_ 1 1#1
  let main_v88 : IVec S_ 1 := (fun x v => Host.reduce IntOp.andi x v reducesTo_S256_S_d0 h_S_) main_v87 main_c_35
  let main_v89 : IVec S_ 1 := andi main_v84 main_v88
  let main_cst_36 : FVec F S_ .f32 := constant S_ .f32 0x00000000#32
  let main_v90 : FVec F S4096x8x16 .f32 := broadcastInDim S4096x8x16 ![] bcast_S_S4096x8x16 main_cst_36
  let main_v91 : IVec S4096x8x16 1 := cmpf .une main_arg0 main_v90
  let main_c_37 : IVec S_ 1 := constantI S_ 1 0#1
  let main_v92 : IVec S4096x8 1 := (fun x v => Host.reduce IntOp.ori x v reducesTo_S4096x8x16_S4096x8_d2 h_S_) main_v91 main_c_37
  let main_v93 : FVec F S4096x8 .f32 := uitofp .f32 main_v92
  let main_cst_38 : FVec F S_ .f32 := constant S_ .f32 0x00000000#32
  let main_v94 : FVec F S4096 .f32 := (fun x v => Host.reduceAdd x v reducesTo_S4096x8_S4096_d1 h_S_) main_v93 main_cst_38
  let main_cst_39 : FVec F S_ .f32 := constant S_ .f32 0x40000000#32
  let main_v95 : FVec F S4096 .f32 := broadcastInDim S4096 ![] bcast_S_S4096 main_cst_39
  let main_v96 : IVec S4096 1 := cmpf .oge main_v94 main_v95
  let main_c_40 : IVec S_ 1 := constantI S_ 1 1#1
  let main_v97 : IVec S_ 1 := (fun x v => Host.reduce IntOp.andi x v reducesTo_S4096_S_d0 h_S_) main_v96 main_c_40
  let main_v98 : IVec S_ 1 := andi main_v89 main_v97
  let main_v99 : IVec S7x28x2 1 := cmpi .eq main_arg19 main_c
  let main_c_41 : IVec S_ 1 := constantI S_ 1 1#1
  fn_part6 (F := F) main_v98 main_v99 main_c_41

def fn_part4 {F : FTy → Type} [FloatOps F] (main_arg0 : FVec F S4096x8x16 .f32) (main_arg14 : FVec F S256 .f32) (main_arg15 : FVec F S256 .f32) (main_arg16 : FVec F S256 .f32) (main_arg17 : FVec F S256 .f32) (main_arg19 : IVec S7x28x2 32) (main_c : IVec S7x28x2 32) (main_v64 : IVec S_ 1) (main_v65 : FVec F S256 .f32) (main_v66 : FVec F S256 .f32) : IVec S_ 1 :=
  let main_v67 : IVec S256 1 := cmpf .olt main_v65 main_v66
  let main_c_27 : IVec S_ 1 := constantI S_ 1 1#1
  let main_v68 : IVec S_ 1 := (fun x v => Host.reduce IntOp.andi x v reducesTo_S256_S_d0 h_S_) main_v67 main_c_27
  let main_v69 : IVec S_ 1 := andi main_v64 main_v68
  let main_v70 : FVec F S256 .f32 := Host.absf main_arg14
  let main_cst_28 : FVec F S_ .f32 := constant S_ .f32 0x7F800000#32
  let main_v71 : FVec F S256 .f32 := broadcastInDim S256 ![] bcast_S_S256 main_cst_28
  let main_v72 : IVec S256 1 := cmpf .olt main_v70 main_v71
  let main_c_29 : IVec S_ 1 := constantI S_ 1 1#1
  let main_v73 : IVec S_ 1 := (fun x v => Host.reduce IntOp.andi x v reducesTo_S256_S_d0 h_S_) main_v72 main_c_29
  let main_v74 : IVec S_ 1 := andi main_v69 main_v73
  let main_v75 : FVec F S256 .f32 := Host.absf main_arg15
  let main_cst_30 : FVec F S_ .f32 := constant S_ .f32 0x7F800000#32
  let main_v76 : FVec F S256 .f32 := broadcastInDim S256 ![] bcast_S_S256 main_cst_30
  let main_v77 : IVec S256 1 := cmpf .olt main_v75 main_v76
  let main_c_31 : IVec S_ 1 := constantI S_ 1 1#1
  let main_v78 : IVec S_ 1 := (fun x v => Host.reduce IntOp.andi x v reducesTo_S256_S_d0 h_S_) main_v77 main_c_31
  let main_v79 : IVec S_ 1 := andi main_v74 main_v78
  let main_v80 : FVec F S256 .f32 := Host.absf main_arg16
  let main_cst_32 : FVec F S_ .f32 := constant S_ .f32 0x7F800000#32
  let main_v81 : FVec F S256 .f32 := broadcastInDim S256 ![] bcast_S_S256 main_cst_32
  let main_v82 : IVec S256 1 := cmpf .olt main_v80 main_v81
  let main_c_33 : IVec S_ 1 := constantI S_ 1 1#1
  let main_v83 : IVec S_ 1 := (fun x v => Host.reduce IntOp.andi x v reducesTo_S256_S_d0 h_S_) main_v82 main_c_33
  fn_part5 (F := F) main_arg0 main_arg17 main_arg19 main_c main_v79 main_v83

def fn_part3 {F : FTy → Type} [FloatOps F] (main_arg0 : FVec F S4096x8x16 .f32) (main_arg10 : FVec F S512x256 .f32) (main_arg11 : FVec F S256x256 .f32) (main_arg12 : FVec F S256x256 .f32) (main_arg13 : FVec F S256 .f32) (main_arg14 : FVec F S256 .f32) (main_arg15 : FVec F S256 .f32) (main_arg16 : FVec F S256 .f32) (main_arg17 : FVec F S256 .f32) (main_arg19 : IVec S7x28x2 32) (main_c : IVec S7x28x2 32) (main_v49 : IVec S_ 1) : IVec S_ 1 :=
  let main_v50 : FVec F S512x256 .f32 := Host.absf main_arg10
  let main_cst_20 : FVec F S_ .f32 := constant S_ .f32 0x7F800000#32
  let main_v51 : FVec F S512x256 .f32 := broadcastInDim S512x256 ![] bcast_S_S512x256 main_cst_20
  let main_v52 : IVec S512x256 1 := cmpf .olt main_v50 main_v51
  let main_c_21 : IVec S_ 1 := constantI S_ 1 1#1
  let main_v53 : IVec S_ 1 := (fun x v => Host.reduce IntOp.andi x v reducesTo_S512x256_S_d0_1 h_S_) main_v52 main_c_21
  let main_v54 : IVec S_ 1 := andi main_v49 main_v53
  let main_v55 : FVec F S256x256 .f32 := Host.absf main_arg11
  let main_cst_22 : FVec F S_ .f32 := constant S_ .f32 0x7F800000#32
  let main_v56 : FVec F S256x256 .f32 := broadcastInDim S256x256 ![] bcast_S_S256x256 main_cst_22
  let main_v57 : IVec S256x256 1 := cmpf .olt main_v55 main_v56
  let main_c_23 : IVec S_ 1 := constantI S_ 1 1#1
  let main_v58 : IVec S_ 1 := (fun x v => Host.reduce IntOp.andi x v reducesTo_S256x256_S_d0_1 h_S_) main_v57 main_c_23
  let main_v59 : IVec S_ 1 := andi main_v54 main_v58
  let main_v60 : FVec F S256x256 .f32 := Host.absf main_arg12
  let main_cst_24 : FVec F S_ .f32 := constant S_ .f32 0x7F800000#32
  let main_v61 : FVec F S256x256 .f32 := broadcastInDim S256x256 ![] bcast_S_S256x256 main_cst_24
  let main_v62 : IVec S256x256 1 := cmpf .olt main_v60 main_v61
  let main_c_25 : IVec S_ 1 := constantI S_ 1 1#1
  let main_v63 : IVec S_ 1 := (fun x v => Host.reduce IntOp.andi x v reducesTo_S256x256_S_d0_1 h_S_) main_v62 main_c_25
  let main_v64 : IVec S_ 1 := andi main_v59 main_v63
  let main_v65 : FVec F S256 .f32 := Host.absf main_arg13
  let main_cst_26 : FVec F S_ .f32 := constant S_ .f32 0x7F800000#32
  let main_v66 : FVec F S256 .f32 := broadcastInDim S256 ![] bcast_S_S256 main_cst_26
  fn_part4 (F := F) main_arg0 main_arg14 main_arg15 main_arg16 main_arg17 main_arg19 main_c main_v64 main_v65 main_v66

def fn_part2 {F : FTy → Type} [FloatOps F] (main_arg0 : FVec F S4096x8x16 .f32) (main_arg7 : FVec F S256 .f32) (main_arg8 : FVec F S256 .f32) (main_arg9 : FVec F S256 .f32) (main_arg10 : FVec F S512x256 .f32) (main_arg11 : FVec F S256x256 .f32) (main_arg12 : FVec F S256x256 .f32) (main_arg13 : FVec F S256 .f32) (main_arg14 : FVec F S256 .f32) (main_arg15 : FVec F S256 .f32) (main_arg16 : FVec F S256 .f32) (main_arg17 : FVec F S256 .f32) (main_arg19 : IVec S7x28x2 32) (main_c : IVec S7x28x2 32) (main_v29 : IVec S_ 1) (main_v32 : IVec S256 1) : IVec S_ 1 :=
  let main_c_13 : IVec S_ 1 := constantI S_ 1 1#1
  let main_v33 : IVec S_ 1 := (fun x v => Host.reduce IntOp.andi x v reducesTo_S256_S_d0 h_S_) main_v32 main_c_13
  let main_v34 : IVec S_ 1 := andi main_v29 main_v33
  let main_v35 : FVec F S256 .f32 := Host.absf main_arg7
  let main_cst_14 : FVec F S_ .f32 := constant S_ .f32 0x7F800000#32
  let main_v36 : FVec F S256 .f32 := broadcastInDim S256 ![] bcast_S_S256 main_cst_14
  let main_v37 : IVec S256 1 := cmpf .olt main_v35 main_v36
  let main_c_15 : IVec S_ 1 := constantI S_ 1 1#1
  let main_v38 : IVec S_ 1 := (fun x v => Host.reduce IntOp.andi x v reducesTo_S256_S_d0 h_S_) main_v37 main_c_15
  let main_v39 : IVec S_ 1 := andi main_v34 main_v38
  let main_v40 : FVec F S256 .f32 := Host.absf main_arg8
  let main_cst_16 : FVec F S_ .f32 := constant S_ .f32 0x7F800000#32
  let main_v41 : FVec F S256 .f32 := broadcastInDim S256 ![] bcast_S_S256 main_cst_16
  let main_v42 : IVec S256 1 := cmpf .olt main_v40 main_v41
  let main_c_17 : IVec S_ 1 := constantI S_ 1 1#1
  let main_v43 : IVec S_ 1 := (fun x v => Host.reduce IntOp.andi x v reducesTo_S256_S_d0 h_S_) main_v42 main_c_17
  let main_v44 : IVec S_ 1 := andi main_v39 main_v43
  let main_v45 : FVec F S256 .f32 := Host.absf main_arg9
  let main_cst_18 : FVec F S_ .f32 := constant S_ .f32 0x7F800000#32
  let main_v46 : FVec F S256 .f32 := broadcastInDim S256 ![] bcast_S_S256 main_cst_18
  let main_v47 : IVec S256 1 := cmpf .olt main_v45 main_v46
  let main_c_19 : IVec S_ 1 := constantI S_ 1 1#1
  let main_v48 : IVec S_ 1 := (fun x v => Host.reduce IntOp.andi x v reducesTo_S256_S_d0 h_S_) main_v47 main_c_19
  let main_v49 : IVec S_ 1 := andi main_v44 main_v48
  fn_part3 (F := F) main_arg0 main_arg10 main_arg11 main_arg12 main_arg13 main_arg14 main_arg15 main_arg16 main_arg17 main_arg19 main_c main_v49

def fn_part1 {F : FTy → Type} [FloatOps F] (main_arg0 : FVec F S4096x8x16 .f32) (main_arg4 : FVec F S256 .f32) (main_arg5 : FVec F S256 .f32) (main_arg6 : FVec F S256 .f32) (main_arg7 : FVec F S256 .f32) (main_arg8 : FVec F S256 .f32) (main_arg9 : FVec F S256 .f32) (main_arg10 : FVec F S512x256 .f32) (main_arg11 : FVec F S256x256 .f32) (main_arg12 : FVec F S256x256 .f32) (main_arg13 : FVec F S256 .f32) (main_arg14 : FVec F S256 .f32) (main_arg15 : FVec F S256 .f32) (main_arg16 : FVec F S256 .f32) (main_arg17 : FVec F S256 .f32) (main_arg19 : IVec S7x28x2 32) (main_c : IVec S7x28x2 32) (main_v14 : IVec S_ 1) (main_v15 : FVec F S256x256 .f32) : IVec S_ 1 :=
  let main_cst_6 : FVec F S_ .f32 := constant S_ .f32 0x7F800000#32
  let main_v16 : FVec F S256x256 .f32 := broadcastInDim S256x256 ![] bcast_S_S256x256 main_cst_6
  let main_v17 : IVec S256x256 1 := cmpf .olt main_v15 main_v16
  let main_c_7 : IVec S_ 1 := constantI S_ 1 1#1
  let main_v18 : IVec S_ 1 := (fun x v => Host.reduce IntOp.andi x v reducesTo_S256x256_S_d0_1 h_S_) main_v17 main_c_7
  let main_v19 : IVec S_ 1 := andi main_v14 main_v18
  let main_v20 : FVec F S256 .f32 := Host.absf main_arg4
  let main_cst_8 : FVec F S_ .f32 := constant S_ .f32 0x7F800000#32
  let main_v21 : FVec F S256 .f32 := broadcastInDim S256 ![] bcast_S_S256 main_cst_8
  let main_v22 : IVec S256 1 := cmpf .olt main_v20 main_v21
  let main_c_9 : IVec S_ 1 := constantI S_ 1 1#1
  let main_v23 : IVec S_ 1 := (fun x v => Host.reduce IntOp.andi x v reducesTo_S256_S_d0 h_S_) main_v22 main_c_9
  let main_v24 : IVec S_ 1 := andi main_v19 main_v23
  let main_v25 : FVec F S256 .f32 := Host.absf main_arg5
  let main_cst_10 : FVec F S_ .f32 := constant S_ .f32 0x7F800000#32
  let main_v26 : FVec F S256 .f32 := broadcastInDim S256 ![] bcast_S_S256 main_cst_10
  let main_v27 : IVec S256 1 := cmpf .olt main_v25 main_v26
  let main_c_11 : IVec S_ 1 := constantI S_ 1 1#1
  let main_v28 : IVec S_ 1 := (fun x v => Host.reduce IntOp.andi x v reducesTo_S256_S_d0 h_S_) main_v27 main_c_11
  let main_v29 : IVec S_ 1 := andi main_v24 main_v28
  let main_v30 : FVec F S256 .f32 := Host.absf main_arg6
  let main_cst_12 : FVec F S_ .f32 := constant S_ .f32 0x7F800000#32
  let main_v31 : FVec F S256 .f32 := broadcastInDim S256 ![] bcast_S_S256 main_cst_12
  let main_v32 : IVec S256 1 := cmpf .olt main_v30 main_v31
  fn_part2 (F := F) main_arg0 main_arg7 main_arg8 main_arg9 main_arg10 main_arg11 main_arg12 main_arg13 main_arg14 main_arg15 main_arg16 main_arg17 main_arg19 main_c main_v29 main_v32

def fn {F : FTy → Type} [FloatOps F] (main_arg0 : FVec F S4096x8x16 .f32) (main_arg1 : FVec F S16x256 .f32) (main_arg2 : FVec F S256x256 .f32) (main_arg3 : FVec F S256x256 .f32) (main_arg4 : FVec F S256 .f32) (main_arg5 : FVec F S256 .f32) (main_arg6 : FVec F S256 .f32) (main_arg7 : FVec F S256 .f32) (main_arg8 : FVec F S256 .f32) (main_arg9 : FVec F S256 .f32) (main_arg10 : FVec F S512x256 .f32) (main_arg11 : FVec F S256x256 .f32) (main_arg12 : FVec F S256x256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : IVec S7x28x2 32) : IVec S_ 1 :=
  let main_c : IVec S7x28x2 32 := fun i => lit0 (S7x28x2.rowMajor i)
  let main_v0 : FVec F S4096x8x16 .f32 := Host.absf main_arg0
  let main_cst : FVec F S_ .f32 := constant S_ .f32 0x7F800000#32
  let main_v1 : FVec F S4096x8x16 .f32 := broadcastInDim S4096x8x16 ![] bcast_S_S4096x8x16 main_cst
  let main_v2 : IVec S4096x8x16 1 := cmpf .olt main_v0 main_v1
  let main_c_0 : IVec S_ 1 := constantI S_ 1 1#1
  let main_v3 : IVec S_ 1 := (fun x v => Host.reduce IntOp.andi x v reducesTo_S4096x8x16_S_d0_1_2 h_S_) main_v2 main_c_0
  let main_c_1 : IVec S_ 1 := constantI S_ 1 1#1
  let main_v4 : IVec S_ 1 := andi main_c_1 main_v3
  let main_v5 : FVec F S16x256 .f32 := Host.absf main_arg1
  let main_cst_2 : FVec F S_ .f32 := constant S_ .f32 0x7F800000#32
  let main_v6 : FVec F S16x256 .f32 := broadcastInDim S16x256 ![] bcast_S_S16x256 main_cst_2
  let main_v7 : IVec S16x256 1 := cmpf .olt main_v5 main_v6
  let main_c_3 : IVec S_ 1 := constantI S_ 1 1#1
  let main_v8 : IVec S_ 1 := (fun x v => Host.reduce IntOp.andi x v reducesTo_S16x256_S_d0_1 h_S_) main_v7 main_c_3
  let main_v9 : IVec S_ 1 := andi main_v4 main_v8
  let main_v10 : FVec F S256x256 .f32 := Host.absf main_arg2
  let main_cst_4 : FVec F S_ .f32 := constant S_ .f32 0x7F800000#32
  let main_v11 : FVec F S256x256 .f32 := broadcastInDim S256x256 ![] bcast_S_S256x256 main_cst_4
  let main_v12 : IVec S256x256 1 := cmpf .olt main_v10 main_v11
  let main_c_5 : IVec S_ 1 := constantI S_ 1 1#1
  let main_v13 : IVec S_ 1 := (fun x v => Host.reduce IntOp.andi x v reducesTo_S256x256_S_d0_1 h_S_) main_v12 main_c_5
  let main_v14 : IVec S_ 1 := andi main_v9 main_v13
  let main_v15 : FVec F S256x256 .f32 := Host.absf main_arg3
  fn_part1 (F := F) main_arg0 main_arg4 main_arg5 main_arg6 main_arg7 main_arg8 main_arg9 main_arg10 main_arg11 main_arg12 main_arg13 main_arg14 main_arg15 main_arg16 main_arg17 main_arg19 main_c main_v14 main_v15
-- ==== Kernel.lean ====
abbrev S4096x8x16 : Shape := ⟨3, ![4096, 8, 16]⟩
abbrev S16x256 : Shape := ⟨2, ![16, 256]⟩
abbrev S256x256 : Shape := ⟨2, ![256, 256]⟩
abbrev S256 : Shape := ⟨1, ![256]⟩
abbrev S512x256 : Shape := ⟨2, ![512, 256]⟩
abbrev S7x28x2 : Shape := ⟨3, ![7, 28, 2]⟩
abbrev S_ : Shape := ⟨0, ![]⟩
abbrev S1x256 : Shape := ⟨2, ![1, 256]⟩
abbrev S32768x16 : Shape := ⟨2, ![32768, 16]⟩
abbrev S4096x1x768 : Shape := ⟨3, ![4096, 1, 768]⟩
abbrev S1024x16 : Shape := ⟨2, ![1024, 16]⟩
abbrev S128x1x768 : Shape := ⟨3, ![128, 1, 768]⟩
abbrev S128x8x16 : Shape := ⟨3, ![128, 8, 16]⟩
abbrev S128x8 : Shape := ⟨2, ![128, 8]⟩
abbrev S128x8x1 : Shape := ⟨3, ![128, 8, 1]⟩
abbrev S128x1 : Shape := ⟨2, ![128, 1]⟩
abbrev S128x1x1 : Shape := ⟨3, ![128, 1, 1]⟩
abbrev S1024x256 : Shape := ⟨2, ![1024, 256]⟩
abbrev S128x8x256 : Shape := ⟨3, ![128, 8, 256]⟩
abbrev S128x256 : Shape := ⟨2, ![128, 256]⟩
abbrev S128x1x256 : Shape := ⟨3, ![128, 1, 256]⟩
abbrev S128x64x256 : Shape := ⟨3, ![128, 64, 256]⟩
abbrev S8192x256 : Shape := ⟨2, ![8192, 256]⟩
abbrev S128x64x1 : Shape := ⟨3, ![128, 64, 1]⟩

abbrev nBuf : Space → Nat
  | .hbm => 70
  | .vmem => 19
  | .smem => 0
  | _ => 0

abbrev bufTy : (tb : Table) → Fin (tcTables nBuf tb) → BufTy
  | .hbm, ⟨0, _⟩ => ⟨S4096x8x16, .f32⟩
  | .hbm, ⟨1, _⟩ => ⟨S16x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S512x256, .f32⟩
  | .hbm, ⟨11, _⟩ => ⟨S256x256, .f32⟩
  | .hbm, ⟨12, _⟩ => ⟨S256x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S7x28x2, .i32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S1x256, .f32⟩
  | .hbm, ⟨27, _⟩ => ⟨S16x256, .f32⟩
  | .hbm, ⟨28, _⟩ => ⟨S16x256, .f32⟩
  | .hbm, ⟨29, _⟩ => ⟨S256, .f32⟩
  | .hbm, ⟨30, _⟩ => ⟨S256, .f32⟩
  | .hbm, ⟨31, _⟩ => ⟨S1x256, .f32⟩
  | .hbm, ⟨32, _⟩ => ⟨S256x256, .f32⟩
  | .hbm, ⟨33, _⟩ => ⟨S256x256, .f32⟩
  | .hbm, ⟨34, _⟩ => ⟨S256, .f32⟩
  | .hbm, ⟨35, _⟩ => ⟨S256, .f32⟩
  | .hbm, ⟨36, _⟩ => ⟨S1x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256, .f32⟩
  | .hbm, ⟨41, _⟩ => ⟨S256, .f32⟩
  | .hbm, ⟨42, _⟩ => ⟨S1x256, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S256, .f32⟩
  | .hbm, ⟨47, _⟩ => ⟨S256, .f32⟩
  | .hbm, ⟨48, _⟩ => ⟨S1x256, .f32⟩
  | .hbm, ⟨49, _⟩ => ⟨S256x256, .f32⟩
  | .hbm, ⟨50, _⟩ => ⟨S256x256, .f32⟩
  | .hbm, ⟨51, _⟩ => ⟨S256, .f32⟩
  | .hbm, ⟨52, _⟩ => ⟨S256, .f32⟩
  | .hbm, ⟨53, _⟩ => ⟨S1x256, .f32⟩
  | .hbm, ⟨54, _⟩ => ⟨S256x256, .f32⟩
  | .hbm, ⟨55, _⟩ => ⟨S256x256, .f32⟩
  | .hbm, ⟨56, _⟩ => ⟨S256, .f32⟩
  | .hbm, ⟨57, _⟩ => ⟨S256, .f32⟩
  | .hbm, ⟨58, _⟩ => ⟨S1x256, .f32⟩
  | .hbm, ⟨59, _⟩ => ⟨S256x256, .f32⟩
  | .hbm, ⟨60, _⟩ => ⟨S256x256, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S32768x16, .f32⟩
  | .hbm, ⟨68, _⟩ => ⟨S4096x1x768, .f32⟩
  | .hbm, ⟨69, _⟩ => ⟨S4096x1x768, .f32⟩
  | .local _ .vmem, ⟨0, _⟩ => ⟨S1024x16, .f32⟩
  | .local _ .vmem, ⟨1, _⟩ => ⟨S1024x16, .f32⟩
  | .local _ .vmem, ⟨2, _⟩ => ⟨S16x256, .f32⟩
  | .local _ .vmem, ⟨3, _⟩ => ⟨S256x256, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | .local _ .vmem, ⟨10, _⟩ => ⟨S1x256, .f32⟩
  | .local _ .vmem, ⟨11, _⟩ => ⟨S256x256, .f32⟩
  | .local _ .vmem, ⟨12, _⟩ => ⟨S1x256, .f32⟩
  | .local _ .vmem, ⟨13, _⟩ => ⟨S256x256, .f32⟩
  | .local _ .vmem, ⟨14, _⟩ => ⟨S1x256, .f32⟩
  | .local _ .vmem, ⟨15, _⟩ => ⟨S128x1x768, .f32⟩
  | .local _ .vmem, ⟨16, _⟩ => ⟨S128x1x768, .f32⟩
  | .local _ .vmem, ⟨17, _⟩ => ⟨S128x1x768, .f32⟩
  | .local _ .vmem, ⟨18, _⟩ => ⟨S128x1x768, .f32⟩
  | _, _ => ⟨S4096x8x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46_0 : Ref sig .tc := ⟨.hbm, 68, rfl⟩
abbrev main_v46_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x1x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S4096x8x16 : Shape := ⟨3, ![4096, 8, 16]⟩
abbrev S16x256 : Shape := ⟨2, ![16, 256]⟩
abbrev S256x256 : Shape := ⟨2, ![256, 256]⟩
abbrev S256 : Shape := ⟨1, ![256]⟩
abbrev S512x256 : Shape := ⟨2, ![512, 256]⟩
abbrev S7x28x2 : Shape := ⟨3, ![7, 28, 2]⟩
abbrev S_ : Shape := ⟨0, ![]⟩
abbrev S4096x8 : Shape := ⟨2, ![4096, 8]⟩
abbrev S4096 : Shape := ⟨1, ![4096]⟩
abbrev S4096x8x256 : Shape := ⟨3, ![4096, 8, 256]⟩
abbrev S1x1x256 : Shape := ⟨3, ![1, 1, 256]⟩
abbrev S4096x8x1 : Shape := ⟨3, ![4096, 8, 1]⟩
abbrev S4096x1 : Shape := ⟨2, ![4096, 1]⟩
abbrev S1 : Shape := ⟨1, ![1]⟩
abbrev S1x1 : Shape := ⟨2, ![1, 1]⟩
abbrev S4096x28x2 : Shape := ⟨3, ![4096, 28, 2]⟩
abbrev S4096x28x1 : Shape := ⟨3, ![4096, 28, 1]⟩
abbrev S4096x28 : Shape := ⟨2, ![4096, 28]⟩
abbrev S4096x56 : Shape := ⟨2, ![4096, 56]⟩
abbrev S4096x56x1 : Shape := ⟨3, ![4096, 56, 1]⟩
abbrev S1x1x1 : Shape := ⟨3, ![1, 1, 1]⟩
abbrev S4096x56x256 : Shape := ⟨3, ![4096, 56, 256]⟩
abbrev S4096x28x2x256 : Shape := ⟨4, ![4096, 28, 2, 256]⟩
abbrev S4096x56x2x256 : Shape := ⟨4, ![4096, 56, 2, 256]⟩
abbrev S4096x56x1x256 : Shape := ⟨4, ![4096, 56, 1, 256]⟩
abbrev S4096x56x512 : Shape := ⟨3, ![4096, 56, 512]⟩
abbrev S4096x256 : Shape := ⟨2, ![4096, 256]⟩
abbrev S4096x768 : Shape := ⟨2, ![4096, 768]⟩
abbrev S4096x1x768 : Shape := ⟨3, ![4096, 1, 768]⟩

abbrev nBuf : Space → Nat
  | .hbm => 248
  | .vmem => 0
  | .smem => 0
  | _ => 0

abbrev hbmTy0_0 (i : Nat) : BufTy := match i % 128 with
  | 0 => ⟨S4096x8x16, .f32⟩
  | 1 => ⟨S16x256, .f32⟩
  | 2 => ⟨S256x256, .f32⟩
  | 3 => ⟨S256x256, .f32⟩
  | 4 => ⟨S256, .f32⟩
  | 5 => ⟨S256, .f32⟩
  | 6 => ⟨S256, .f32⟩
  | 7 => ⟨S256, .f32⟩
  | 8 => ⟨S256, .f32⟩
  | 9 => ⟨S256, .f32⟩
  | 10 => ⟨S512x256, .f32⟩
  | 11 => ⟨S256x256, .f32⟩
  | 12 => ⟨S256x256, .f32⟩
  | 13 => ⟨S256, .f32⟩
  | 14 => ⟨S256, .f32⟩
  | 15 => ⟨S256, .f32⟩
  | 16 => ⟨S256, .f32⟩
  | 17 => ⟨S256, .f32⟩
  | 18 => ⟨S256, .f32⟩
  | 19 => ⟨S7x28x2, .i32⟩
  | 20 => ⟨S_, .f32⟩
  | 21 => ⟨S4096x8x16, .f32⟩
  | 22 => ⟨S4096x8x16, .i1⟩
  | 23 => ⟨S_, .i1⟩
  | 24 => ⟨S4096x8, .i1⟩
  | 25 => ⟨S_, .f32⟩
  | 26 => ⟨S4096x8x16, .f32⟩
  | 27 => ⟨S4096x8x16, .f32⟩
  | 28 => ⟨S_, .f32⟩
  | 29 => ⟨S4096x8x16, .f32⟩
  | 30 => ⟨S4096x8x16, .f32⟩
  | 31 => ⟨S4096x8, .f32⟩
  | 32 => ⟨S_, .f32⟩
  | 33 => ⟨S4096, .f32⟩
  | 34 => ⟨S4096x8x256, .f32⟩
  | 35 => ⟨S_, .f32⟩
  | 36 => ⟨S_, .f32⟩
  | 37 => ⟨S_, .f32⟩
  | 38 => ⟨S4096x8x256, .f32⟩
  | 39 => ⟨S4096x8x256, .f32⟩
  | 40 => ⟨S1x1x256, .f32⟩
  | 41 => ⟨S4096x8x256, .f32⟩
  | 42 => ⟨S4096x8x256, .f32⟩
  | 43 => ⟨S1x1x256, .f32⟩
  | 44 => ⟨S4096x8x256, .f32⟩
  | 45 => ⟨S4096x8x256, .f32⟩
  | 46 => ⟨S_, .f32⟩
  | 47 => ⟨S4096x8x256, .f32⟩
  | 48 => ⟨S4096x8x256, .f32⟩
  | 49 => ⟨S4096x8x256, .f32⟩
  | 50 => ⟨S_, .f32⟩
  | 51 => ⟨S_, .f32⟩
  | 52 => ⟨S_, .f32⟩
  | 53 => ⟨S4096x8x256, .f32⟩
  | 54 => ⟨S4096x8x256, .f32⟩
  | 55 => ⟨S1x1x256, .f32⟩
  | 56 => ⟨S4096x8x256, .f32⟩
  | 57 => ⟨S4096x8x256, .f32⟩
  | 58 => ⟨S1x1x256, .f32⟩
  | 59 => ⟨S4096x8x256, .f32⟩
  | 60 => ⟨S4096x8x256, .f32⟩
  | 61 => ⟨S_, .f32⟩
  | 62 => ⟨S4096x8x256, .f32⟩
  | 63 => ⟨S4096x8x256, .f32⟩
  | 64 => ⟨S4096x8x256, .f32⟩
  | 65 => ⟨S_, .f32⟩
  | 66 => ⟨S_, .f32⟩
  | 67 => ⟨S_, .f32⟩
  | 68 => ⟨S4096x8x256, .f32⟩
  | 69 => ⟨S4096x8x256, .f32⟩
  | 70 => ⟨S1x1x256, .f32⟩
  | 71 => ⟨S4096x8x256, .f32⟩
  | 72 => ⟨S4096x8x256, .f32⟩
  | 73 => ⟨S1x1x256, .f32⟩
  | 74 => ⟨S4096x8x256, .f32⟩
  | 75 => ⟨S4096x8x256, .f32⟩
  | 76 => ⟨S_, .f32⟩
  | 77 => ⟨S4096x8x256, .f32⟩
  | 78 => ⟨S4096x8x256, .f32⟩
  | 79 => ⟨S4096x8x1, .i1⟩
  | 80 => ⟨S4096x8x1, .f32⟩
  | 81 => ⟨S4096x8x256, .f32⟩
  | 82 => ⟨S4096x8x256, .f32⟩
  | 83 => ⟨S4096, .i32⟩
  | 84 => ⟨S_, .i32⟩
  | 85 => ⟨S4096, .i32⟩
  | 86 => ⟨S4096, .i32⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S4096x1, .i32⟩
  | 95 => ⟨S1, .i32⟩
  | 96 => ⟨S_, .i32⟩
  | 97 => ⟨S4096x1, .i32⟩
  | 98 => ⟨S4096x1, .i1⟩
  | 99 => ⟨S1x1, .i32⟩
  | 100 => ⟨S4096x1, .i32⟩
  | 101 => ⟨S4096x1, .i1⟩
  | 102 => ⟨S4096x1, .i1⟩
  | 103 => ⟨S_, .i1⟩
  | 104 => ⟨S4096, .i1⟩
  | 105 => ⟨S4096x28x2, .i32⟩
  | 106 => ⟨S4096x28x2, .i1⟩
  | 107 => ⟨S_, .i32⟩
  | 108 => ⟨S4096x28x2, .i32⟩
  | 109 => ⟨S4096x28x2, .i32⟩
  | 110 => ⟨S4096x28x1, .i32⟩
  | 111 => ⟨S4096x28, .i32⟩
  | 112 => ⟨S_, .i32⟩
  | 113 => ⟨S4096x28, .i32⟩
  | 114 => ⟨S4096x28, .i1⟩
  | 115 => ⟨S_, .i32⟩
  | 116 => ⟨S4096x28x2, .i32⟩
  | 117 => ⟨S4096x28x2, .i1⟩
  | 118 => ⟨S_, .i32⟩
  | 119 => ⟨S_, .i32⟩
  | 120 => ⟨S4096x28x2, .i32⟩
  | 121 => ⟨S4096x28x2, .i32⟩
  | 122 => ⟨S4096x56, .i32⟩
  | 123 => ⟨S4096x56x1, .i32⟩
  | 124 => ⟨S_, .i32⟩
  | 125 => ⟨S4096x56x1, .i32⟩
  | 126 => ⟨S4096x56x1, .i1⟩
  | 127 => ⟨S_, .i32⟩
  | _ => ⟨S4096x8x16, .f32⟩

abbrev hbmTy0_1 (i : Nat) : BufTy := match i % 128 with
  | 0 => ⟨S4096x56x1, .i32⟩
  | 1 => ⟨S4096x56x1, .i32⟩
  | 2 => ⟨S4096x56x1, .i32⟩
  | 3 => ⟨S1, .i32⟩
  | 4 => ⟨S_, .i32⟩
  | 5 => ⟨S4096x56x1, .i32⟩
  | 6 => ⟨S4096x56x1, .i1⟩
  | 7 => ⟨S1x1x1, .i32⟩
  | 8 => ⟨S4096x56x1, .i32⟩
  | 9 => ⟨S4096x56x1, .i1⟩
  | 10 => ⟨S4096x56x1, .i1⟩
  | 11 => ⟨S_, .i1⟩
  | 12 => ⟨S4096x56, .i1⟩
  | 13 => ⟨S4096x56x256, .f32⟩
  | 14 => ⟨S4096x56x256, .i1⟩
  | 15 => ⟨S_, .f32⟩
  | 16 => ⟨S4096x56x256, .f32⟩
  | 17 => ⟨S4096x56x256, .f32⟩
  | 18 => ⟨S4096x28x2x256, .f32⟩
  | 19 => ⟨S4096x28x2x256, .f32⟩
  | 20 => ⟨S4096x56x2x256, .f32⟩
  | 21 => ⟨S4096x56x1x256, .f32⟩
  | 22 => ⟨S4096x56x256, .f32⟩
  | 23 => ⟨S4096x56x1x256, .f32⟩
  | 24 => ⟨S4096x56x256, .f32⟩
  | 25 => ⟨S4096x56x512, .f32⟩
  | 26 => ⟨S4096x56, .i1⟩
  | 27 => ⟨S4096x28, .f32⟩
  | 28 => ⟨S_, .f32⟩
  | 29 => ⟨S4096, .f32⟩
  | 30 => ⟨S4096x1, .f32⟩
  | 31 => ⟨S_, .f32⟩
  | 32 => ⟨S4096x1, .f32⟩
  | 33 => ⟨S4096x1, .f32⟩
  | 34 => ⟨S4096x56x256, .f32⟩
  | 35 => ⟨S_, .f32⟩
  | 36 => ⟨S_, .f32⟩
  | 37 => ⟨S_, .f32⟩
  | 38 => ⟨S4096x56x256, .f32⟩
  | 39 => ⟨S4096x56x256, .f32⟩
  | 40 => ⟨S1x1x256, .f32⟩
  | 41 => ⟨S4096x56x256, .f32⟩
  | 42 => ⟨S4096x56x256, .f32⟩
  | 43 => ⟨S1x1x256, .f32⟩
  | 44 => ⟨S4096x56x256, .f32⟩
  | 45 => ⟨S4096x56x256, .f32⟩
  | 46 => ⟨S_, .f32⟩
  | 47 => ⟨S4096x56x256, .f32⟩
  | 48 => ⟨S4096x56x256, .f32⟩
  | 49 => ⟨S4096x56x256, .f32⟩
  | 50 => ⟨S_, .f32⟩
  | 51 => ⟨S_, .f32⟩
  | 52 => ⟨S_, .f32⟩
  | 53 => ⟨S4096x56x256, .f32⟩
  | 54 => ⟨S4096x56x256, .f32⟩
  | 55 => ⟨S1x1x256, .f32⟩
  | 56 => ⟨S4096x56x256, .f32⟩
  | 57 => ⟨S4096x56x256, .f32⟩
  | 58 => ⟨S1x1x256, .f32⟩
  | 59 => ⟨S4096x56x256, .f32⟩
  | 60 => ⟨S4096x56x256, .f32⟩
  | 61 => ⟨S_, .f32⟩
  | 62 => ⟨S4096x56x256, .f32⟩
  | 63 => ⟨S4096x56x256, .f32⟩
  | 64 => ⟨S4096x56x256, .f32⟩
  | 65 => ⟨S_, .f32⟩
  | 66 => ⟨S_, .f32⟩
  | 67 => ⟨S_, .f32⟩
  | 68 => ⟨S4096x56x256, .f32⟩
  | 69 => ⟨S4096x56x256, .f32⟩
  | 70 => ⟨S1x1x256, .f32⟩
  | 71 => ⟨S4096x56x256, .f32⟩
  | 72 => ⟨S4096x56x256, .f32⟩
  | 73 => ⟨S1x1x256, .f32⟩
  | 74 => ⟨S4096x56x256, .f32⟩
  | 75 => ⟨S4096x56x256, .f32⟩
  | 76 => ⟨S_, .f32⟩
  | 77 => ⟨S4096x56x256, .f32⟩
  | 78 => ⟨S4096x56x256, .f32⟩
  | 79 => ⟨S4096x56x1, .i1⟩
  | 80 => ⟨S4096x56x1, .f32⟩
  | 81 => ⟨S4096x56x256, .f32⟩
  | 82 => ⟨S4096x56x256, .f32⟩
  | 83 => ⟨S4096x1, .f32⟩
  | 84 => ⟨S4096x8x1, .i1⟩
  | 85 => ⟨S4096x8x1, .f32⟩
  | 86 => ⟨S4096x8x256, .f32⟩
  | 87 => ⟨S4096x8x256, .f32⟩
  | 88 => ⟨S_, .f32⟩
  | 89 => ⟨S4096x256, .f32⟩
  | 90 => ⟨S4096x256, .f32⟩
  | 91 => ⟨S4096x256, .f32⟩
  | 92 => ⟨S4096x8x1, .i1⟩
  | 93 => ⟨S_, .f32⟩
  | 94 => ⟨S_, .f32⟩
  | 95 => ⟨S4096x8x256, .i1⟩
  | 96 => ⟨S4096x8x256, .f32⟩
  | 97 => ⟨S4096x8x256, .f32⟩
  | 98 => ⟨S_, .f32⟩
  | 99 => ⟨S4096x256, .f32⟩
  | 100 => ⟨S4096x768, .f32⟩
  | 101 => ⟨S4096x56x1, .i1⟩
  | 102 => ⟨S4096x56x1, .f32⟩
  | 103 => ⟨S4096x56x256, .f32⟩
  | 104 => ⟨S4096x56x256, .f32⟩
  | 105 => ⟨S_, .f32⟩
  | 106 => ⟨S4096x256, .f32⟩
  | 107 => ⟨S4096x256, .f32⟩
  | 108 => ⟨S4096x256, .f32⟩
  | 109 => ⟨S4096x56x1, .i1⟩
  | 110 => ⟨S_, .f32⟩
  | 111 => ⟨S_, .f32⟩
  | 112 => ⟨S4096x56x256, .i1⟩
  | 113 => ⟨S4096x56x256, .f32⟩
  | 114 => ⟨S4096x56x256, .f32⟩
  | 115 => ⟨S_, .f32⟩
  | 116 => ⟨S4096x256, .f32⟩
  | 117 => ⟨S4096x768, .f32⟩
  | 118 => ⟨S4096x1x768, .f32⟩
  | 119 => ⟨S4096x1x768, .f32⟩
  | _ => ⟨S4096x8x16, .f32⟩

abbrev hbmTy (i : Nat) : BufTy := match i / 128 with
  | 0 => hbmTy0_0 i
  | 1 => hbmTy0_1 i
  | _ => ⟨S4096x8x16, .f32⟩

abbrev bufTy : (tb : Table) → Fin (tcTables nBuf tb) → BufTy
  | .hbm, ⟨i, _⟩ => hbmTy i
  | _, _ => ⟨S4096x8x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_cst_1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_2 : Ref sig .tc := ⟨.hbm, 32, rfl⟩
abbrev main_v8 : Ref sig .tc := ⟨.hbm, 33, rfl⟩
abbrev main_v9 : Ref sig .tc := ⟨.hbm, 34, rfl⟩
abbrev main_cst_3 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_call0_cst : Ref sig .tc := ⟨.hbm, 46, rfl⟩
abbrev main_call0_v0 : Ref sig .tc := ⟨.hbm, 47, rfl⟩
abbrev main_v20 : Ref sig .tc := ⟨.hbm, 48, rfl⟩
abbrev main_v21 : Ref sig .tc := ⟨.hbm, 49, rfl⟩
abbrev main_cst_4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_call1_cst : Ref sig .tc := ⟨.hbm, 61, rfl⟩
abbrev main_call1_v0 : Ref sig .tc := ⟨.hbm, 62, rfl⟩
abbrev main_v32 : Ref sig .tc := ⟨.hbm, 63, rfl⟩
abbrev main_v33 : Ref sig .tc := ⟨.hbm, 64, rfl⟩
abbrev main_cst_5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_call2_cst : Ref sig .tc := ⟨.hbm, 76, rfl⟩
abbrev main_call2_v0 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_6 : Ref sig .tc := ⟨.hbm, 84, rfl⟩
abbrev main_v50 : Ref sig .tc := ⟨.hbm, 85, rfl⟩
abbrev main_v51 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_c_4 : Ref sig .tc := ⟨.hbm, 107, rfl⟩
abbrev main_call3_v15 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_c_7 : Ref sig .tc := ⟨.hbm, 112, rfl⟩
abbrev main_v55 : Ref sig .tc := ⟨.hbm, 113, rfl⟩
abbrev main_v56 : Ref sig .tc := ⟨.hbm, 114, rfl⟩
abbrev main_c_8 : Ref sig .tc := ⟨.hbm, 115, rfl⟩
abbrev main_v57 : Ref sig .tc := ⟨.hbm, 116, rfl⟩
abbrev main_v58 : Ref sig .tc := ⟨.hbm, 117, rfl⟩
abbrev main_c_9 : Ref sig .tc := ⟨.hbm, 118, rfl⟩
abbrev main_call4_v0 : Ref sig .tc := ⟨.hbm, 119, rfl⟩
abbrev main_call4_v1 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_call5_c : Ref sig .tc := ⟨.hbm, 124, rfl⟩
abbrev main_call5_v0 : Ref sig .tc := ⟨.hbm, 125, rfl⟩
abbrev main_call5_v1 : Ref sig .tc := ⟨.hbm, 126, rfl⟩
abbrev main_call5_c_0 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_call5_c_1 : Ref sig .tc := ⟨.hbm, 131, rfl⟩
abbrev main_call5_c_2 : Ref sig .tc := ⟨.hbm, 132, rfl⟩
abbrev main_call5_v5 : Ref sig .tc := ⟨.hbm, 133, rfl⟩
abbrev main_call5_v6 : Ref sig .tc := ⟨.hbm, 134, rfl⟩
abbrev main_call5_v7 : Ref sig .tc := ⟨.hbm, 135, rfl⟩
abbrev main_call5_v8 : Ref sig .tc := ⟨.hbm, 136, rfl⟩
abbrev main_call5_v9 : Ref sig .tc := ⟨.hbm, 137, rfl⟩
abbrev main_call5_v10 : Ref sig .tc := ⟨.hbm, 138, rfl⟩
abbrev main_call5_c_3 : Ref sig .tc := ⟨.hbm, 139, rfl⟩
abbrev main_call5_v11 : Ref sig .tc := ⟨.hbm, 140, rfl⟩
abbrev main_call5_v12 : Ref sig .tc := ⟨.hbm, 141, rfl⟩
abbrev main_call5_v13 : Ref sig .tc := ⟨.hbm, 142, rfl⟩
abbrev main_call5_cst : Ref sig .tc := ⟨.hbm, 143, rfl⟩
abbrev main_call5_v14 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_cst_10 : Ref sig .tc := ⟨.hbm, 156, rfl⟩
abbrev main_v73 : Ref sig .tc := ⟨.hbm, 157, rfl⟩
abbrev main_v74 : Ref sig .tc := ⟨.hbm, 158, rfl⟩
abbrev main_cst_11 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_cst_12 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_call6_cst : Ref sig .tc := ⟨.hbm, 174, rfl⟩
abbrev main_call6_v0 : Ref sig .tc := ⟨.hbm, 175, rfl⟩
abbrev main_v88 : Ref sig .tc := ⟨.hbm, 176, rfl⟩
abbrev main_v89 : Ref sig .tc := ⟨.hbm, 177, rfl⟩
abbrev main_cst_13 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_call7_cst : Ref sig .tc := ⟨.hbm, 189, rfl⟩
abbrev main_call7_v0 : Ref sig .tc := ⟨.hbm, 190, rfl⟩
abbrev main_v100 : Ref sig .tc := ⟨.hbm, 191, rfl⟩
abbrev main_v101 : Ref sig .tc := ⟨.hbm, 192, rfl⟩
abbrev main_cst_14 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_call8_cst : Ref sig .tc := ⟨.hbm, 204, rfl⟩
abbrev main_call8_v0 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_cst_15 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_cst_16 : Ref sig .tc := ⟨.hbm, 221, rfl⟩
abbrev main_call9_v0 : Ref sig .tc := ⟨.hbm, 222, rfl⟩
abbrev main_call9_v1 : Ref sig .tc := ⟨.hbm, 223, rfl⟩
abbrev main_call9_v2 : Ref sig .tc := ⟨.hbm, 224, rfl⟩
abbrev main_v126 : Ref sig .tc := ⟨.hbm, 225, rfl⟩
abbrev main_cst_17 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_cst_18 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_cst_19 : Ref sig .tc := ⟨.hbm, 238, rfl⟩
abbrev main_call10_v0 : Ref sig .tc := ⟨.hbm, 239, rfl⟩
abbrev main_call10_v1 : Ref sig .tc := ⟨.hbm, 240, rfl⟩
abbrev main_call10_v2 : Ref sig .tc := ⟨.hbm, 241, rfl⟩
abbrev main_v137 : Ref sig .tc := ⟨.hbm, 242, rfl⟩
abbrev main_cst_20 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩

abbrev nD : Nat := 1
abbrev τ : Topo := Topo.v7x

variable {F : FTy → Type} [FloatOps F]
-- ==== Proof.Layers.lean ====
/- What both programs are made of, over the extended reals: a dense layer, a row's mask bit, and the three aggregates
   (mean, maximum, sum) of masked rows. -/
module

public import Idealize.ShloMosaic.Lib.Pointwise

@[expose] public section

noncomputable section

namespace Cert.DeepSet

open Idealize.ShloMosaic

/-- One dense layer with its bias and its cut at zero, at column `c`. -/
def lin {n : Nat} (x : Fin n → EReal) (W : Fin n → Fin 256 → EReal) (b : Fin 256 → EReal) (c : Fin 256) : EReal :=
  max (∑ k, x k * W k c + b c) 0

open Classical in
/-- A row's mask bit: set when some feature of the row is not zero. -/
def bit (x : Fin 16 → EReal) : BitVec 1 := BitVec.ofBool (decide (∃ k, x k ≠ 0))

/-- A mask bit as a number. -/
def on (b : BitVec 1) : EReal := if b = 1#1 then 1 else 0

/-- How many mask bits are set, as a number. -/
def cnt {n : Nat} (M : Fin n → BitVec 1) : EReal := ∑ j, on (M j)

/-- Mean, maximum and sum of the rows whose mask bit is set, side by side. -/
def agg {n : Nat} (y : Fin n → Fin 256 → EReal) (M : Fin n → BitVec 1) (num : EReal) (c : Fin 768) : EReal :=
  if h : (c : Nat) < 256 then Ideal.div (∑ p, if M p = 1#1 then y p ⟨c, h⟩ else 0) num
  else if h : (c : Nat) - 256 < 256 then
    Finset.univ.fold max ⊥ fun p => if M p = 1#1 then y p ⟨(c : Nat) - 256, h⟩ else ⊥
  else ∑ p, if M p = 1#1 then y p ⟨(c : Nat) - 256 - 256, by omega⟩ else 0

theorem bit_cases (b : BitVec 1) : b = 0#1 ∨ b = 1#1 := BitVec.eq_zero_or_eq_one b

theorem mul_on (x : EReal) (b : BitVec 1) : x * on b = if b = 1#1 then x else 0 := by
  rcases bit_cases b with rfl | rfl <;> simp [on]

theorem mul_on_on (x : EReal) (b : BitVec 1) : x * on b * on b = if b = 1#1 then x else 0 := by
  rcases bit_cases b with rfl | rfl <;> simp [on]

theorem select_mul_on (x y : EReal) (b : BitVec 1) : Scalar.select b (x * on b) y = if b = 1#1 then x else y := by
  rcases bit_cases b with rfl | rfl <;> simp [on, Scalar.select]

theorem select_eq_ite (x y : EReal) (b : BitVec 1) : Scalar.select b x y = if b = 1#1 then x else y := by
  rcases bit_cases b with rfl | rfl <;> simp [Scalar.select]

/-- A mask bit widened and read as a signed number. -/
theorem sitofp_bit (b : BitVec 1) :
    (FloatOps.sitofp FTy.f32 (BitVec.setWidth 32 b) : Ideal .f32) = on b := by
  rcases bit_cases b with rfl | rfl
  · show (((BitVec.setWidth 32 0#1).toInt : ℝ) : EReal) = on 0#1
    simp [on]
  · show (((BitVec.setWidth 32 1#1).toInt : ℝ) : EReal) = on 1#1
    simp [on]

/-- A mask bit read as an unsigned number. -/
theorem uitofp_bit (b : BitVec 1) : (FloatOps.uitofp FTy.f32 b : Ideal .f32) = on b := by
  rcases bit_cases b with rfl | rfl
  · show (((0#1).toNat : ℝ) : EReal) = on 0#1
    simp [on]
  · show (((1#1).toNat : ℝ) : EReal) = on 1#1
    simp [on]

/-- The pattern of minus infinity. -/
theorem ofBits_neg_inf : Ideal.ofBits FTy.f32 4286578688#32 = ⊥ := by
  simp [Ideal.ofBits, Ideal.ieee]

/-- Over words that are 0 or 1, the maximum is above zero exactly when some word is 1. -/
theorem max_bit (x : Fin 16 → EReal) (p : Fin 16 → Prop) [DecidablePred p] (h : ∀ k, p k ↔ x k ≠ 0) :
    BitVec.ofBool (decide ((0 : EReal) < Finset.fold max ⊥ (fun k => if p k then (1 : EReal) else 0) Finset.univ)) = bit x := by
  unfold bit
  congr 1
  rw [decide_eq_decide, Finset.lt_fold_max]
  constructor
  · rintro (h0 | ⟨k, _, hk⟩)
    · exact absurd h0 (by simp)
    · by_cases hp : p k
      · exact ⟨k, (h k).1 hp⟩
      · simp [hp] at hk
  · rintro ⟨k, hk⟩
    exact Or.inr ⟨k, Finset.mem_univ k, by simp [(h k).2 hk]⟩

end Cert.DeepSet

end
-- ==== Proof.KernelBody.lean ====
/- What the kernel's body computes on one block of 128 events, read at an index. -/
module

public import proofs.«01_k».proof.Proof.Layers
public import proofs.«01_k».proof.Proof.Gen.KernelIdeal.Frame

@[expose] public section

set_option maxRecDepth 16384

noncomputable section

namespace Cert.DeepSet

open Idealize.ShloMosaic Cert.KernelIdeal Cert.KernelIdeal.Gen

/-- The weights and biases the kernel's body reads, scales already multiplied in. -/
structure Net where
  w10 : Fin 16 → Fin 256 → EReal
  b10 : Fin 256 → EReal
  w11 : Fin 256 → Fin 256 → EReal
  b11 : Fin 256 → EReal
  w12 : Fin 256 → Fin 256 → EReal
  b12 : Fin 256 → EReal
  w2a : Fin 256 → Fin 256 → EReal
  w2b : Fin 256 → Fin 256 → EReal
  b20 : Fin 256 → EReal
  w21 : Fin 256 → Fin 256 → EReal
  b21 : Fin 256 → EReal
  w22 : Fin 256 → Fin 256 → EReal
  b22 : Fin 256 → EReal

/-- The jet network on one jet. -/
def Net.jet (N : Net) (x : Fin 16 → EReal) : Fin 256 → EReal :=
  lin (lin (lin x N.w10 N.b10) N.w11 N.b11) N.w12 N.b12

/-- The pair network on two jets' features, its first layer in two halves. -/
def Net.pair (N : Net) (u v : Fin 256 → EReal) : Fin 256 → EReal :=
  lin (lin (fun c => max (∑ k, u k * N.w2a k c + ∑ k, v k * N.w2b k c + N.b20 c) 0) N.w21 N.b21) N.w22 N.b22

/-- A jet's features, zero where its mask bit is clear. -/
def Net.feat (N : Net) (x : Fin 16 → EReal) (c : Fin 256) : EReal := N.jet x c * on (bit x)

/-- Whether pair `p` of the 64 counts, `f` the number of jets as a word. -/
def pairBit (f : BitVec 32) (p : Fin 64) : BitVec 1 :=
  IntOp.andi (IntOp.andi (IntOp.cmpi .ne (BitVec.ofNat 32 (p / 8)) (BitVec.ofNat 32 (p % 8)))
    (IntOp.cmpi .slt (BitVec.ofNat 32 (p / 8)) f)) (IntOp.cmpi .slt (BitVec.ofNat 32 (p % 8)) f)

/-- The first and the second jet of pair `p`. -/
def fstJet (p : Fin 64) : Fin 8 := ⟨p / 8, by omega⟩
def sndJet (p : Fin 64) : Fin 8 := ⟨p % 8, by omega⟩

/-- The first two layers of the jet network on a block of rows. -/
theorem pay6_apply (v0 : Vec Ideal S1024x16 .f32) (v16 : Vec Ideal S16x256 .f32) (v19 : Vec Ideal S1x256 .f32)
    (v25 : Vec Ideal S256x256 .f32) (v28 : Vec Ideal S1x256 .f32) (r : Fin 1024) (c : Fin 256) :
    k0_pay6 (F := Ideal) v0 v16 v19 v25 v28 (ix2 r c) =
      lin (lin (fun k => v0 (ix2 r k)) (fun k c => v16 (ix2 k c)) (fun c => v19 (ix2 0 c)))
        (fun k c => v25 (ix2 k c)) (fun c => v28 (ix2 0 c)) c := by
  pointwise [k0_pay6, k0_pay2, lin]

/-- The mask bits of a block. -/
theorem pay3_apply (v0 : Vec Ideal S1024x16 .f32) (e : Fin 128) (j : Fin 8) (u : Fin 1) :
    k0_pay3 (F := Ideal) v0 (ix3 e j u) = bit fun k => v0 (ix2 ⟨e * 8 + j, by omega⟩ k) := by
  pointwise [k0_pay3, k0_pay2]
  rw [ofBits_neg_inf]
  exact max_bit _ _ fun _ => Iff.rfl

/-- The number of jets of each event of a block. -/
theorem pay5_apply (v0 : Vec Ideal S1024x16 .f32) (e : Fin 128) (j u : Fin 1) :
    k0_pay5 (F := Ideal) v0 (ix3 e j u) = cnt fun j : Fin 8 => bit fun k => v0 (ix2 ⟨e * 8 + j, by omega⟩ k) := by
  pointwise [k0_pay5, k0_pay4]
  simp only [sitofp_bit, pay3_apply, cnt]

/-- A mask bit as a number. -/
theorem pay4_apply (v0 : Vec Ideal S1024x16 .f32) (e : Fin 128) (j : Fin 8) (u : Fin 1) :
    k0_pay4 (F := Ideal) v0 (ix3 e j u) = on (bit fun k => v0 (ix2 ⟨e * 8 + j, by omega⟩ k)) := by
  pointwise [k0_pay4]
  simp only [sitofp_bit, pay3_apply]

/-- The features the body keeps of a jet. -/
theorem pay8_apply (v13 : FVec Ideal S128x8x1 .f32) (v33 : FVec Ideal S1024x256 .f32) (v34 : FVec Ideal S256x256 .f32)
    (v37 : Vec Ideal S1x256 .f32) (e : Fin 128) (j : Fin 8) (c : Fin 256) :
    k0_pay8 (F := Ideal) v13 v33 (k0_pay7 v34) (constant S1024x256 .f32 0x00000000#32) v37 (ix3 e j c) =
      lin (fun k => v33 (ix2 ⟨e * 8 + j, by omega⟩ k)) (fun k c => v34 (ix2 k c)) (fun c => v37 (ix2 0 c)) c
        * v13 (ix3 e j 0) := by
  pointwise [k0_pay8, k0_pay7, lin]

/-- The first result of a block, from the features. -/
theorem pay10_apply (v11 : IVec S128x8x1 1) (v13 : FVec Ideal S128x8x1 .f32) (v15 : FVec Ideal S128x1x1 .f32)
    (v33 : FVec Ideal S1024x256 .f32) (v35 : FVec Ideal S256x256 .f32) (v37 : Vec Ideal S1x256 .f32)
    (cst : FVec Ideal S1024x256 .f32) (e : Fin 128) (u : Fin 1) (c : Fin 768)
    (l : Fin 8 → Fin 256 → EReal) (M : Fin 8 → BitVec 1) (num : EReal)
    (h11 : ∀ j, v11 (ix3 e j 0) = M j) (h15 : v15 (ix3 e 0 0) = num)
    (h8 : ∀ j c, k0_pay8 (F := Ideal) v13 v33 v35 cst v37 (ix3 e j c) = l j c * on (M j)) :
    k0_pay10 (F := Ideal) v11 v13 v15 v33 v35 cst v37 (ix3 e u c) = agg l M num c := by
  pointwise [k0_pay10]
  simp only [h8, h11, h15, ofBits_neg_inf, select_mul_on]
  simp only [mul_on, agg]

/-- The printed quotient and remainder by 8 of a pair's number, with their fix-ups for signs. -/
theorem pay21_apply (v15 : FVec Ideal S128x1x1 .f32) (e : Fin 128) (p : Fin 64) (u : Fin 1) :
    k0_pay21 (F := Ideal) v15 (iota .tc S128x64x1 32 [1] iota_S128x64x1_d1_w32) 8#32 k0_pay19 k0_pay20 (ix3 e p u) =
      pairBit (FloatOps.fptosi 32 (v15 (ix3 e 0 0))) p := by
  have hq : ∀ p : Fin 64, (Scalar.select
            (IntOp.andi
              (IntOp.cmpi CmpIPredicate.ne
                (IntOp.subi (BitVec.setWidth 32 (IntOp.cmpi CmpIPredicate.sgt (BitVec.ofNat 32 ↑p) 0#32))
                  (BitVec.setWidth 32 (IntOp.cmpi CmpIPredicate.slt (BitVec.ofNat 32 ↑p) 0#32)))
                (Scalar.subi (Scalar.extui (Scalar.cmpi CmpIPredicate.sgt 8#32 0#32))
                  (Scalar.extui (Scalar.cmpi CmpIPredicate.slt 8#32 0#32))))
              (IntOp.cmpi CmpIPredicate.ne (IntOp.remsi ArithUnit.vector (BitVec.ofNat 32 ↑p) 8#32) 0#32))
            (IntOp.subi (IntOp.divsi ArithUnit.vector (BitVec.ofNat 32 ↑p) 8#32) 1#32)
            (IntOp.divsi ArithUnit.vector (BitVec.ofNat 32 ↑p) 8#32)) = BitVec.ofNat 32 (p / 8) := by decide +kernel
  have hr : ∀ p : Fin 64, (Scalar.select
            (IntOp.andi
              (IntOp.xori
                (IntOp.cmpi CmpIPredicate.slt
                  (IntOp.remsi ArithUnit.vector (BitVec.ofNat 32 ↑p)
                    (Scalar.select (Scalar.cmpi CmpIPredicate.eq 8#32 0#32) 1#32 8#32))
                  0#32)
                (Scalar.cmpi CmpIPredicate.slt (Scalar.select (Scalar.cmpi CmpIPredicate.eq 8#32 0#32) 1#32 8#32) 0#32))
              (IntOp.cmpi CmpIPredicate.ne
                (IntOp.remsi ArithUnit.vector (BitVec.ofNat 32 ↑p)
                  (Scalar.select (Scalar.cmpi CmpIPredicate.eq 8#32 0#32) 1#32 8#32))
                0#32))
            (IntOp.addi
              (IntOp.remsi ArithUnit.vector (BitVec.ofNat 32 ↑p)
                (Scalar.select (Scalar.cmpi CmpIPredicate.eq 8#32 0#32) 1#32 8#32))
              (Scalar.select (Scalar.cmpi CmpIPredicate.eq 8#32 0#32) 1#32 8#32))
            (IntOp.remsi ArithUnit.vector (BitVec.ofNat 32 ↑p)
              (Scalar.select (Scalar.cmpi CmpIPredicate.eq 8#32 0#32) 1#32 8#32))) = BitVec.ofNat 32 (p % 8) := by decide +kernel
  pointwise [k0_pay19, k0_pay20, k0_pay21]
  rw [hq p, hr p]
  rfl

/-- The two halves of the pair network's first layer, before they are added. -/
theorem pay11_apply (v13 : FVec Ideal S128x8x1 .f32) (v33 : FVec Ideal S1024x256 .f32) (v35 : FVec Ideal S256x256 .f32)
    (cst : FVec Ideal S1024x256 .f32) (v37 : Vec Ideal S1x256 .f32) (v59 : Vec Ideal S256x256 .f32)
    (e : Fin 128) (j : Fin 8) (c : Fin 256) :
    k0_pay11 (F := Ideal) v13 v33 v35 cst v37 v59 (ix3 e j c) =
      ∑ k, k0_pay8 (F := Ideal) v13 v33 v35 cst v37 (ix3 e j k) * v59 (ix2 k c) := by
  pointwise [k0_pay11, k0_pay9]

theorem pay12_apply (v13 : FVec Ideal S128x8x1 .f32) (v33 : FVec Ideal S1024x256 .f32) (v35 : FVec Ideal S256x256 .f32)
    (cst : FVec Ideal S1024x256 .f32) (v37 : Vec Ideal S1x256 .f32) (v62 : Vec Ideal S256x256 .f32)
    (e : Fin 128) (j : Fin 8) (c : Fin 256) :
    k0_pay12 (F := Ideal) v13 v33 v35 cst v37 v62 (ix3 e j c) =
      ∑ k, k0_pay8 (F := Ideal) v13 v33 v35 cst v37 (ix3 e j k) * v62 (ix2 k c) := by
  pointwise [k0_pay12, k0_pay9]

/-- The eight pieces laid end to end, read at pair `p`. -/
theorem ladder (A B : Fin 8 → EReal) (p : Fin 64) :
    (if h : (p : Nat) < 8 then A 0 + B ⟨(p : Nat), h⟩ else
      if h : (p : Nat) - 8 < 8 then A 1 + B ⟨(p : Nat) - 8, h⟩ else
      if h : (p : Nat) - 8 - 8 < 8 then A 2 + B ⟨(p : Nat) - 8 - 8, h⟩ else
      if h : (p : Nat) - 8 - 8 - 8 < 8 then A 3 + B ⟨(p : Nat) - 8 - 8 - 8, h⟩ else
      if h : (p : Nat) - 8 - 8 - 8 - 8 < 8 then A 4 + B ⟨(p : Nat) - 8 - 8 - 8 - 8, h⟩ else
      if h : (p : Nat) - 8 - 8 - 8 - 8 - 8 < 8 then A 5 + B ⟨(p : Nat) - 8 - 8 - 8 - 8 - 8, h⟩ else
      if h : (p : Nat) - 8 - 8 - 8 - 8 - 8 - 8 < 8 then A 6 + B ⟨(p : Nat) - 8 - 8 - 8 - 8 - 8 - 8, h⟩ else
      A 7 + B ⟨(p : Nat) - 8 - 8 - 8 - 8 - 8 - 8 - 8, by omega⟩) = A (fstJet p) + B (sndJet p) := by
  fin_cases p <;> rfl

/-- The pair network's first layer before bias and cut: the first jet's half and the second jet's half. -/
theorem concat_apply (a b : FVec Ideal S128x8x256 .f32) (e : Fin 128) (p : Fin 64) (c : Fin 256) :
    concatenate S128x64x256 1 [⟨S128x8x256,
      addf (broadcastTo S128x8x256 (extractStridedSlice S128x1x256 ![0, 0, 0] a slices_S128x8x256_o0_0_0_S128x1x256)
        broadcasts_S128x1x256_S128x8x256) b⟩, ⟨S128x8x256,
      addf (broadcastTo S128x8x256 (extractStridedSlice S128x1x256 ![0, 1, 0] a slices_S128x8x256_o0_1_0_S128x1x256)
        broadcasts_S128x1x256_S128x8x256) b⟩, ⟨S128x8x256,
      addf (broadcastTo S128x8x256 (extractStridedSlice S128x1x256 ![0, 2, 0] a slices_S128x8x256_o0_2_0_S128x1x256)
        broadcasts_S128x1x256_S128x8x256) b⟩, ⟨S128x8x256,
      addf (broadcastTo S128x8x256 (extractStridedSlice S128x1x256 ![0, 3, 0] a slices_S128x8x256_o0_3_0_S128x1x256)
        broadcasts_S128x1x256_S128x8x256) b⟩, ⟨S128x8x256,
      addf (broadcastTo S128x8x256 (extractStridedSlice S128x1x256 ![0, 4, 0] a slices_S128x8x256_o0_4_0_S128x1x256)
        broadcasts_S128x1x256_S128x8x256) b⟩, ⟨S128x8x256,
      addf (broadcastTo S128x8x256 (extractStridedSlice S128x1x256 ![0, 5, 0] a slices_S128x8x256_o0_5_0_S128x1x256)
        broadcasts_S128x1x256_S128x8x256) b⟩, ⟨S128x8x256,
      addf (broadcastTo S128x8x256 (extractStridedSlice S128x1x256 ![0, 6, 0] a slices_S128x8x256_o0_6_0_S128x1x256)
        broadcasts_S128x1x256_S128x8x256) b⟩, ⟨S128x8x256,
      addf (broadcastTo S128x8x256 (extractStridedSlice S128x1x256 ![0, 7, 0] a slices_S128x8x256_o0_7_0_S128x1x256)
        broadcasts_S128x1x256_S128x8x256) b⟩] concatenates_S128x8x256_S128x8x256_S128x8x256_S128x8x256_S128x8x256_S128x8x256_S128x8x256_S128x8x256_S128x64x256_d1
      (ix3 e p c) = a (ix3 e (fstJet p) c) + b (ix3 e (sndJet p) c) := by
  pointwise
  exact ladder (fun j => a (ix3 e j c)) (fun j => b (ix3 e j c)) p

/-- The pair network of a block, from the two halves of its first layer. -/
theorem pay18_apply (v13 : FVec Ideal S128x8x1 .f32) (v33 : FVec Ideal S1024x256 .f32) (v35 : FVec Ideal S256x256 .f32)
    (cst : FVec Ideal S1024x256 .f32) (v37 : Vec Ideal S1x256 .f32) (v59 v62 : Vec Ideal S256x256 .f32)
    (v93 : Vec Ideal S1x256 .f32) (v99 : Vec Ideal S256x256 .f32) (v102 : Vec Ideal S1x256 .f32)
    (v108 : Vec Ideal S256x256 .f32) (v111 : Vec Ideal S1x256 .f32) (e : Fin 128) (p : Fin 64) (c : Fin 256) :
    k0_pay22 (F := Ideal) (k0_pay18 (k0_pay11 v13 v33 v35 cst v37 v59) (k0_pay12 v13 v33 v35 cst v37 v62) (k0_pay13 v13 v33 v35 cst v37 v59 v62)
      (k0_pay14 v13 v33 v35 cst v37 v59 v62) (k0_pay15 v13 v33 v35 cst v37 v59 v62) (k0_pay16 v13 v33 v35 cst v37 v59 v62)
      (k0_pay17 v13 v33 v35 cst v37 v59) v93 v99 v102 v108 v111) (ix3 e p c) =
      lin (lin (fun c => max (k0_pay11 (F := Ideal) v13 v33 v35 cst v37 v59 (ix3 e (fstJet p) c)
        + k0_pay12 (F := Ideal) v13 v33 v35 cst v37 v62 (ix3 e (sndJet p) c) + v93 (ix2 0 c)) 0)
        (fun k c => v99 (ix2 k c)) (fun c => v102 (ix2 0 c))) (fun k c => v108 (ix2 k c)) (fun c => v111 (ix2 0 c)) c := by
  have h91 := concat_apply (k0_pay11 v13 v33 v35 cst v37 v59) (k0_pay12 v13 v33 v35 cst v37 v62) e p
  unfold k0_pay18 k0_pay13 k0_pay14 k0_pay15 k0_pay16 k0_pay17
  dsimp only
  generalize concatenate S128x64x256 1 _ _ = v91 at h91 ⊢
  pointwise [k0_pay22, lin]
  simp only [h91]

/-- The second result of a block, from the pair network. -/
theorem pay1_apply (v15 : FVec Ideal S128x1x1 .f32) (v116 : FVec Ideal S8192x256 .f32) (e : Fin 128) (u : Fin 1) (c : Fin 768)
    (y : Fin 64 → Fin 256 → EReal) (num : EReal) (h15 : v15 (ix3 e 0 0) = num)
    (hy : ∀ p c, k0_pay22 (F := Ideal) v116 (ix3 e p c) = y p c) :
    k0_pay1 (F := Ideal) v15 (k0_pay21 v15 (iota .tc S128x64x1 32 [1] iota_S128x64x1_d1_w32) 8#32 k0_pay19 k0_pay20) (k0_pay22 v116)
      (k0_pay23 v15 v116 (iota .tc S128x64x1 32 [1] iota_S128x64x1_d1_w32) 8#32 k0_pay19 k0_pay20) (ix3 e u c) =
      agg y (pairBit (FloatOps.fptosi (φ := .f32) (F := Ideal) 32 num)) (num * (num - 1)) c := by
  have hm := fun p => pay21_apply v15 e p 0
  rw [h15] at hm
  unfold k0_pay23
  generalize k0_pay21 (F := Ideal) v15 (iota .tc S128x64x1 32 [1] iota_S128x64x1_d1_w32) 8#32 k0_pay19 k0_pay20 = pm at hm ⊢
  generalize k0_pay22 (F := Ideal) v116 = w at hy ⊢
  pointwise [k0_pay1]
  simp only [hm, hy, h15, ofBits_neg_inf, select_eq_ite, agg]

/-- The weights and biases in the windows' blocks. -/
def netOf (x1 : Vec Ideal S16x256 .f32) (x2 x3 : Vec Ideal S256x256 .f32) (x4 x5 x6 : Vec Ideal S1x256 .f32)
    (x7 x8 : Vec Ideal S256x256 .f32) (x9 : Vec Ideal S1x256 .f32) (x10 : Vec Ideal S256x256 .f32) (x11 : Vec Ideal S1x256 .f32)
    (x12 : Vec Ideal S256x256 .f32) (x13 : Vec Ideal S1x256 .f32) : Net where
  w10 k c := x1 (ix2 k c)
  w11 k c := x2 (ix2 k c)
  w12 k c := x3 (ix2 k c)
  b10 c := x4 (ix2 0 c)
  b11 c := x5 (ix2 0 c)
  b12 c := x6 (ix2 0 c)
  w2a k c := x7 (ix2 k c)
  w2b k c := x8 (ix2 k c)
  b20 c := x9 (ix2 0 c)
  w21 k c := x10 (ix2 k c)
  b21 c := x11 (ix2 0 c)
  w22 k c := x12 (ix2 k c)
  b22 c := x13 (ix2 0 c)

/-- The first result of an event whose jets are the rows `X`. -/
def Net.out1 (N : Net) (X : Fin 8 → Fin 16 → EReal) : Fin 768 → EReal :=
  agg (fun j => N.jet (X j)) (fun j => bit (X j)) (cnt fun j => bit (X j))

/-- The second result of an event whose jets are the rows `X`. -/
def Net.out2 (N : Net) (X : Fin 8 → Fin 16 → EReal) : Fin 768 → EReal :=
  agg (fun p => N.pair (N.feat (X (fstJet p))) (N.feat (X (sndJet p))))
    (pairBit (FloatOps.fptosi (φ := .f32) (F := Ideal) 32 (cnt fun j => bit (X j))))
    ((cnt fun j => bit (X j)) * ((cnt fun j => bit (X j)) - 1))

theorem zeros2 : (![0, 0] : Fin 2 → Nat) = fun _ => 0 := funext fun a => by fin_cases a <;> rfl
theorem ld_x (x : Vec Ideal S1024x16 .f32) : View.ld x r0_0 = x := View.ld_unit_zero (S := S1024x16) zeros2 _ x
theorem ld_w10 (x : Vec Ideal S16x256 .f32) : View.ld x r0_1 = x := View.ld_unit_zero (S := S16x256) zeros2 _ x
theorem ld_bias (x : Vec Ideal S1x256 .f32) : View.ld x r0_2 = x := View.ld_unit_zero (S := S1x256) zeros2 _ x
theorem ld_weight (x : Vec Ideal S256x256 .f32) : View.ld x r0_3 = x := View.ld_unit_zero (S := S256x256) zeros2 _ x
theorem zeros3 : (![0, 0, 0] : Fin 3 → Nat) = fun _ => 0 := funext fun a => by fin_cases a <;> rfl

/-- What the body leaves in the first result's block. -/
theorem out14_apply (x0 : Vec Ideal S1024x16 .f32) (x1 : Vec Ideal S16x256 .f32) (x2 x3 : Vec Ideal S256x256 .f32) (x4 x5 x6 : Vec Ideal S1x256 .f32)
    (x7 x8 : Vec Ideal S256x256 .f32) (x9 : Vec Ideal S1x256 .f32) (x10 : Vec Ideal S256x256 .f32) (x11 : Vec Ideal S1x256 .f32)
    (x12 : Vec Ideal S256x256 .f32) (x13 : Vec Ideal S1x256 .f32) (e : Fin 128) (u : Fin 1) (c : Fin 768) :
    out0_14 x0 x1 x2 x3 x4 x5 x6 x7 x8 x9 x10 x11 x12 x13 (ix3 e u c) =
      (netOf x1 x2 x3 x4 x5 x6 x7 x8 x9 x10 x11 x12 x13).out1 (fun j k => x0 (ix2 ⟨e * 8 + j, by omega⟩ k)) c := by
  unfold_out out0_14
  rw [View.canon_unit_zero zeros3]
  simp only [ld_x, ld_w10, ld_bias, ld_weight]
  exact pay10_apply _ _ _ _ _ _ _ e u c _ _ _ (fun j => pay3_apply x0 e j 0) (pay5_apply x0 e 0 0) fun j c => by
    rw [pay8_apply, pay4_apply]
    simp only [pay6_apply]
    rfl

/-- What the body leaves in the second result's block. -/
theorem out15_apply (x0 : Vec Ideal S1024x16 .f32) (x1 : Vec Ideal S16x256 .f32) (x2 x3 : Vec Ideal S256x256 .f32) (x4 x5 x6 : Vec Ideal S1x256 .f32)
    (x7 x8 : Vec Ideal S256x256 .f32) (x9 : Vec Ideal S1x256 .f32) (x10 : Vec Ideal S256x256 .f32) (x11 : Vec Ideal S1x256 .f32)
    (x12 : Vec Ideal S256x256 .f32) (x13 : Vec Ideal S1x256 .f32) (e : Fin 128) (u : Fin 1) (c : Fin 768) :
    out0_15 x0 x1 x2 x3 x4 x5 x6 x7 x8 x9 x10 x11 x12 x13 (ix3 e u c) =
      (netOf x1 x2 x3 x4 x5 x6 x7 x8 x9 x10 x11 x12 x13).out2 (fun j k => x0 (ix2 ⟨e * 8 + j, by omega⟩ k)) c := by
  unfold_out out0_15
  rw [View.canon_unit_zero zeros3]
  simp only [ld_x, ld_w10, ld_bias, ld_weight]
  exact pay1_apply _ _ e u c _ _ (pay5_apply x0 e 0 0) fun p c => by
    rw [pay18_apply]
    simp only [pay11_apply, pay12_apply, pay8_apply, pay4_apply, pay6_apply]
    rfl

end Cert.DeepSet

end
-- ==== Proof.KernelArray.lean ====
/- The two result arrays of the kernel as functions of its arguments. -/
module

public import proofs.«01_k».proof.Proof.KernelBody
public import Idealize.ShloMosaic.Lib.Pipeline.ValueKit
public import Idealize.ShloMosaic.Lib.Claim

@[expose] public section

set_option maxRecDepth 16384

noncomputable section

namespace Cert.DeepSet

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Window 0 takes the 1024 rows of the point; the weights' and the biases' windows take whole arrays. -/
theorem index_in : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] :=
  (by decide +kernel : ∀ t : Fin grid0.N, _)

theorem index_out : ∀ t : Fin cfg0.N, win0_14.index t = ![t.val, 0, 0] ∧ win0_15.index t = ![t.val, 0, 0] :=
  (by decide +kernel : ∀ t : Fin grid0.N, _)

/-- The factor every weight is scaled by besides its gain. -/
def scale : EReal := Ideal.div 1 (Ideal.sqrt (Ideal.ofBits FTy.f32 0x3F8020C5#32))

/-- A weight `w` under the gain `g`. -/
def scl (w g : EReal) : EReal := w * (g * scale)

/-- The weights as the kernel's host scales them, and the biases. -/
def scaled (c : Dev nD) : Net where
  w10 k j := scl (m ((c : Thread nD τ).loc main_arg1) (ix2 k j)) (m ((c : Thread nD τ).loc main_arg4) (ix1 j))
  w11 k j := scl (m ((c : Thread nD τ).loc main_arg2) (ix2 k j)) (m ((c : Thread nD τ).loc main_arg6) (ix1 j))
  w12 k j := scl (m ((c : Thread nD τ).loc main_arg3) (ix2 k j)) (m ((c : Thread nD τ).loc main_arg8) (ix1 j))
  b10 j := m ((c : Thread nD τ).loc main_arg5) (ix1 j)
  b11 j := m ((c : Thread nD τ).loc main_arg7) (ix1 j)
  b12 j := m ((c : Thread nD τ).loc main_arg9) (ix1 j)
  w2a k j := scl (m ((c : Thread nD τ).loc main_arg10) (ix2 (⟨k, by omega⟩ : Fin 512) j)) (m ((c : Thread nD τ).loc main_arg13) (ix1 j))
  w2b k j := scl (m ((c : Thread nD τ).loc main_arg10) (ix2 (⟨256 + k, by omega⟩ : Fin 512) j)) (m ((c : Thread nD τ).loc main_arg13) (ix1 j))
  b20 j := m ((c : Thread nD τ).loc main_arg14) (ix1 j)
  w21 k j := scl (m ((c : Thread nD τ).loc main_arg11) (ix2 k j)) (m ((c : Thread nD τ).loc main_arg15) (ix1 j))
  b21 j := m ((c : Thread nD τ).loc main_arg16) (ix1 j)
  w22 k j := scl (m ((c : Thread nD τ).loc main_arg12) (ix2 k j)) (m ((c : Thread nD τ).loc main_arg17) (ix1 j))
  b22 j := m ((c : Thread nD τ).loc main_arg18) (ix1 j)

/-- The jets of event `E`. -/
def jets (c : Dev nD) (E : Fin 4096) (j : Fin 8) (k : Fin 16) : EReal := m ((c : Thread nD τ).loc main_arg0) (ix3 E j k)

theorem x_block (c : Dev nD) (t : Fin cfg0.N) (e : Fin 128) (j : Fin 8) (k : Fin 16) (E : Fin 4096) (hE : (E : ℕ) = t.val * 128 + e) :
    iblk m c 0 t (ix2 (⟨e * 8 + j, by omega⟩ : Fin 1024) k) = jets m c E j k := by
  obtain ⟨h0, -⟩ := index_in t
  have he : ((View.whole main_v45).slice (win0_0.rect t)).emb (ix2 (⟨e * 8 + j, by omega⟩ : Fin 1024) k) =
      ix2 (⟨E * 8 + j, by omega⟩ : Fin 32768) k := by blk_ext [h0]
  blk_simp [iblk, h0]
  entry_read
  rw [he]
  pointwise [jets]

theorem w10_block (c : Dev nD) (t : Fin cfg0.N) (k : Fin 16) (j : Fin 256) : iblk m c 1 t (ix2 k j) = (scaled m c).w10 k j := by
  obtain ⟨h0, h1, h2, h3, h4, h5, h6, h7, h8, h9, h10, h11, h12, h13⟩ := index_in t
  have he : ((View.whole main_v6).slice (win0_1.rect t)).emb (ix2 k j) = ix2 k j := by blk_ext [h1]
  blk_simp [iblk, h1]
  entry_read
  rw [he]
  pointwise [scaled, scl, scale]

theorem w11_block (c : Dev nD) (t : Fin cfg0.N) (k : Fin 256) (j : Fin 256) : iblk m c 2 t (ix2 k j) = (scaled m c).w11 k j := by
  obtain ⟨h0, h1, h2, h3, h4, h5, h6, h7, h8, h9, h10, h11, h12, h13⟩ := index_in t
  have he : ((View.whole main_v11).slice (win0_2.rect t)).emb (ix2 k j) = ix2 k j := by blk_ext [h2]
  blk_simp [iblk, h2]
  entry_read
  rw [he]
  pointwise [scaled, scl, scale]

theorem w12_block (c : Dev nD) (t : Fin cfg0.N) (k : Fin 256) (j : Fin 256) : iblk m c 3 t (ix2 k j) = (scaled m c).w12 k j := by
  obtain ⟨h0, h1, h2, h3, h4, h5, h6, h7, h8, h9, h10, h11, h12, h13⟩ := index_in t
  have he : ((View.whole main_v16).slice (win0_3.rect t)).emb (ix2 k j) = ix2 k j := by blk_ext [h3]
  blk_simp [iblk, h3]
  entry_read
  rw [he]
  pointwise [scaled, scl, scale]

theorem b10_block (c : Dev nD) (t : Fin cfg0.N) (j : Fin 256) : iblk m c 4 t (ix2 0 j) = (scaled m c).b10 j := by
  obtain ⟨h0, h1, h2, h3, h4, h5, h6, h7, h8, h9, h10, h11, h12, h13⟩ := index_in t
  have he : ((View.whole main_v39).slice (win0_4.rect t)).emb (ix2 0 j) = ix2 0 j := by blk_ext [h4]
  blk_simp [iblk, h4]
  entry_read
  rw [he]
  pointwise [scaled]

theorem b11_block (c : Dev nD) (t : Fin cfg0.N) (j : Fin 256) : iblk m c 5 t (ix2 0 j) = (scaled m c).b11 j := by
  obtain ⟨h0, h1, h2, h3, h4, h5, h6, h7, h8, h9, h10, h11, h12, h13⟩ := index_in t
  have he : ((View.whole main_v40).slice (win0_5.rect t)).emb (ix2 0 j) = ix2 0 j := by blk_ext [h5]
  blk_simp [iblk, h5]
  entry_read
  rw [he]
  pointwise [scaled]

theorem b12_block (c : Dev nD) (t : Fin cfg0.N) (j : Fin 256) : iblk m c 6 t (ix2 0 j) = (scaled m c).b12 j := by
  obtain ⟨h0, h1, h2, h3, h4, h5, h6, h7, h8, h9, h10, h11, h12, h13⟩ := index_in t
  have he : ((View.whole main_v41).slice (win0_6.rect t)).emb (ix2 0 j) = ix2 0 j := by blk_ext [h6]
  blk_simp [iblk, h6]
  entry_read
  rw [he]
  pointwise [scaled]

theorem w2a_block (c : Dev nD) (t : Fin cfg0.N) (k : Fin 256) (j : Fin 256) : iblk m c 7 t (ix2 k j) = (scaled m c).w2a k j := by
  obtain ⟨h0, h1, h2, h3, h4, h5, h6, h7, h8, h9, h10, h11, h12, h13⟩ := index_in t
  have he : ((View.whole main_v22).slice (win0_7.rect t)).emb (ix2 k j) = ix2 k j := by blk_ext [h7]
  blk_simp [iblk, h7]
  entry_read
  rw [he]
  pointwise [scaled, scl, scale]

theorem w2b_block (c : Dev nD) (t : Fin cfg0.N) (k : Fin 256) (j : Fin 256) : iblk m c 8 t (ix2 k j) = (scaled m c).w2b k j := by
  obtain ⟨h0, h1, h2, h3, h4, h5, h6, h7, h8, h9, h10, h11, h12, h13⟩ := index_in t
  have he : ((View.whole main_v28).slice (win0_8.rect t)).emb (ix2 k j) = ix2 k j := by blk_ext [h8]
  blk_simp [iblk, h8]
  entry_read
  rw [he]
  pointwise [scaled, scl, scale]

theorem b20_block (c : Dev nD) (t : Fin cfg0.N) (j : Fin 256) : iblk m c 9 t (ix2 0 j) = (scaled m c).b20 j := by
  obtain ⟨h0, h1, h2, h3, h4, h5, h6, h7, h8, h9, h10, h11, h12, h13⟩ := index_in t
  have he : ((View.whole main_v42).slice (win0_9.rect t)).emb (ix2 0 j) = ix2 0 j := by blk_ext [h9]
  blk_simp [iblk, h9]
  entry_read
  rw [he]
  pointwise [scaled]

theorem w21_block (c : Dev nD) (t : Fin cfg0.N) (k : Fin 256) (j : Fin 256) : iblk m c 10 t (ix2 k j) = (scaled m c).w21 k j := by
  obtain ⟨h0, h1, h2, h3, h4, h5, h6, h7, h8, h9, h10, h11, h12, h13⟩ := index_in t
  have he : ((View.whole main_v33).slice (win0_10.rect t)).emb (ix2 k j) = ix2 k j := by blk_ext [h10]
  blk_simp [iblk, h10]
  entry_read
  rw [he]
  pointwise [scaled, scl, scale]

theorem b21_block (c : Dev nD) (t : Fin cfg0.N) (j : Fin 256) : iblk m c 11 t (ix2 0 j) = (scaled m c).b21 j := by
  obtain ⟨h0, h1, h2, h3, h4, h5, h6, h7, h8, h9, h10, h11, h12, h13⟩ := index_in t
  have he : ((View.whole main_v43).slice (win0_11.rect t)).emb (ix2 0 j) = ix2 0 j := by blk_ext [h11]
  blk_simp [iblk, h11]
  entry_read
  rw [he]
  pointwise [scaled]

theorem w22_block (c : Dev nD) (t : Fin cfg0.N) (k : Fin 256) (j : Fin 256) : iblk m c 12 t (ix2 k j) = (scaled m c).w22 k j := by
  obtain ⟨h0, h1, h2, h3, h4, h5, h6, h7, h8, h9, h10, h11, h12, h13⟩ := index_in t
  have he : ((View.whole main_v38).slice (win0_12.rect t)).emb (ix2 k j) = ix2 k j := by blk_ext [h12]
  blk_simp [iblk, h12]
  entry_read
  rw [he]
  pointwise [scaled, scl, scale]

theorem b22_block (c : Dev nD) (t : Fin cfg0.N) (j : Fin 256) : iblk m c 13 t (ix2 0 j) = (scaled m c).b22 j := by
  obtain ⟨h0, h1, h2, h3, h4, h5, h6, h7, h8, h9, h10, h11, h12, h13⟩ := index_in t
  have he : ((View.whole main_v44).slice (win0_13.rect t)).emb (ix2 0 j) = ix2 0 j := by blk_ext [h13]
  blk_simp [iblk, h13]
  entry_read
  rw [he]
  pointwise [scaled]

end Cert.DeepSet

end
-- ==== Proof.KernelRun.lean ====
/- The kernel's run: its two result arrays as functions of its arguments. -/
module

public import proofs.«01_k».proof.Proof.KernelArray

@[expose] public section

set_option maxRecDepth 16384

noncomputable section

namespace Cert.DeepSet

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- At every grid point the blocks of the weights and biases are the scaled ones. -/
theorem net_block (c : Dev nD) (t : Fin cfg0.N) :
    netOf (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) = scaled m c := by
  have e1 := w10_block m c t
  have e2 := w11_block m c t
  have e3 := w12_block m c t
  have e4 := b10_block m c t
  have e5 := b11_block m c t
  have e6 := b12_block m c t
  have e7 := w2a_block m c t
  have e8 := w2b_block m c t
  have e9 := b20_block m c t
  have e10 := w21_block m c t
  have e11 := b21_block m c t
  have e12 := w22_block m c t
  have e13 := b22_block m c t
  generalize scaled m c = N at *
  obtain ⟨_, _, _, _, _, _, _, _, _, _, _, _, _⟩ := N
  simp only [netOf, Net.mk.injEq]
  exact ⟨funext₂ e1, funext e4, funext₂ e2, funext e5, funext₂ e3, funext e6, funext₂ e7, funext₂ e8, funext e9, funext₂ e10,
    funext e11, funext₂ e12, funext e13⟩

/-- The first result array. -/
def res1 (c : Dev nD) : Buf (Elt Ideal) ((c : Thread nD τ).loc main_v46_0) :=
  fun i : S4096x1x768.Idx => (scaled m c).out1 (jets m c (i 0)) (i 2)

/-- The second result array. -/
def res2 (c : Dev nD) : Buf (Elt Ideal) ((c : Thread nD τ).loc main_v46_1) :=
  fun i : S4096x1x768.Idx => (scaled m c).out2 (jets m c (i 0)) (i 2)

theorem final1 (c : Dev nD) : (dats m 0 c).arrAt 14 cfg0.N = res1 m c := by
  refine (dats m 0 c).arrAt_eq_of_covers 14 _ (by decide +kernel) fun t hf y => ?_
  obtain ⟨h14, h15⟩ := index_out t
  have ht : t.val < 32 := t.isLt
  blk_simp
  rw [after0_14]
  idx_vars y
  have he : ((View.whole main_v46_0).slice (win0_14.rect t)).emb (ix3 y0 y1 y2) = ix3 (⟨t.val * 128 + y0, by omega⟩ : Fin 4096) 0 y2 := by
    blk_ext [h14]
  rw [he]
  refine (out14_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y0 y1 y2).trans ?_
  rw [net_block]
  refine congrArg (fun X => (scaled m c).out1 X y2) ?_
  funext j k
  exact x_block m c t y0 j k _ rfl

theorem final2 (c : Dev nD) : (dats m 0 c).arrAt 15 cfg0.N = res2 m c := by
  refine (dats m 0 c).arrAt_eq_of_covers 15 _ (by decide +kernel) fun t hf y => ?_
  obtain ⟨h14, h15⟩ := index_out t
  have ht : t.val < 32 := t.isLt
  blk_simp
  rw [after0_15]
  idx_vars y
  have he : ((View.whole main_v46_1).slice (win0_15.rect t)).emb (ix3 y0 y1 y2) = ix3 (⟨t.val * 128 + y0, by omega⟩ : Fin 4096) 0 y2 := by
    blk_ext [h15]
  rw [he]
  refine (out15_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) y0 y1 y2).trans ?_
  rw [net_block]
  refine congrArg (fun X => (scaled m c).out2 X y2) ?_
  funext j k
  exact x_block m c t y0 j k _ rfl

/-- Every execution ends with the two result arrays at these functions of the arguments, the arguments unchanged. -/
theorem kernel_run : θ_run defs (onTc (τ := τ) (main (F := Ideal))) ⟨m, fun _ => 0, ρ⟩ fun r => ∀ c : Dev nD,
      r.2.mem ((c : Thread nD τ).loc main_v46_0) = res1 m c
      ∧ r.2.mem ((c : Thread nD τ).loc main_v46_1) = res2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun _ h c => ⟨((h.1 c).1 14).trans (final1 m c), ((h.1 c).1 15).trans (final2 m c), h.2 c⟩)
    (θ_run_and (run_main m ρ) (unchanged m ρ))

end Cert.DeepSet

end
-- ==== Proof.Reference.lean ====
/- What the reference computes, read at an index. -/
module

public import proofs.«01_k».proof.Proof.Layers
public import proofs.«01_k».proof.Proof.Gen.ReferenceIdeal.Run
public import Idealize.ShloMosaic.Lib.Tactic.CleanTypes
public import Idealize.ShloMosaic.Lib.Routing.OpsOrder
public import Idealize.ShloMosaic.Lib.ReduceAll

@[expose] public section

set_option maxRecDepth 16384

noncomputable section

namespace Cert.DeepSet

open Idealize.ShloMosaic Cert.ReferenceIdeal Cert.ReferenceIdeal.Gen Cert.ReferenceIdeal.Value
open Idealize.ShloMosaic.StableHlo

/-- The divisor of every dot. -/
def root : EReal := Ideal.sqrt (Ideal.ofBits FTy.f32 0x3F8020C5#32)

/-- One dense layer as the reference writes it: the dot over the root, times the gain, plus the bias, cut at zero. -/
def glin {n : Nat} (x : Fin n → EReal) (W : Fin n → Fin 256 → EReal) (g b : Fin 256 → EReal) (c : Fin 256) : EReal :=
  max (g c * Ideal.div (∑ k, x k * W k c) root + b c) 0

/-- The reference's weights, gains and biases. -/
structure Raw where
  w10 : Fin 16 → Fin 256 → EReal
  g10 : Fin 256 → EReal
  b10 : Fin 256 → EReal
  w11 : Fin 256 → Fin 256 → EReal
  g11 : Fin 256 → EReal
  b11 : Fin 256 → EReal
  w12 : Fin 256 → Fin 256 → EReal
  g12 : Fin 256 → EReal
  b12 : Fin 256 → EReal
  w20 : Fin 512 → Fin 256 → EReal
  g20 : Fin 256 → EReal
  b20 : Fin 256 → EReal
  w21 : Fin 256 → Fin 256 → EReal
  g21 : Fin 256 → EReal
  b21 : Fin 256 → EReal
  w22 : Fin 256 → Fin 256 → EReal
  g22 : Fin 256 → EReal
  b22 : Fin 256 → EReal

/-- A jet's features. -/
def Raw.jet (R : Raw) (x : Fin 16 → EReal) : Fin 256 → EReal :=
  glin (glin (glin x R.w10 R.g10 R.b10) R.w11 R.g11 R.b11) R.w12 R.g12 R.b12

/-- A pair's features, of the features of its two jets. -/
def Raw.pair (R : Raw) (u v : Fin 256 → EReal) : Fin 256 → EReal :=
  glin (glin (fun c => max (R.g20 c * Ideal.div (∑ k : Fin 256, u k * R.w20 ⟨k, by omega⟩ c + ∑ k : Fin 256, v k * R.w20 ⟨256 + k, by omega⟩ c) root
    + R.b20 c) 0) R.w21 R.g21 R.b21) R.w22 R.g22 R.b22

/-- A jet's features, zero for a jet that is masked out. -/
def Raw.feat (R : Raw) (x : Fin 16 → EReal) (c : Fin 256) : EReal := R.jet x c * on (bit x)

variable (V0 : Valuation τ sig (Elt Ideal))

/-- The weights, gains and biases among the arguments. -/
def raw : Raw where
  w10 k j := V0 (Proc.devRef .tc main_arg1) (ix2 k j)
  w11 k j := V0 (Proc.devRef .tc main_arg2) (ix2 k j)
  w12 k j := V0 (Proc.devRef .tc main_arg3) (ix2 k j)
  g10 j := V0 (Proc.devRef .tc main_arg4) (ix1 j)
  b10 j := V0 (Proc.devRef .tc main_arg5) (ix1 j)
  g11 j := V0 (Proc.devRef .tc main_arg6) (ix1 j)
  b11 j := V0 (Proc.devRef .tc main_arg7) (ix1 j)
  g12 j := V0 (Proc.devRef .tc main_arg8) (ix1 j)
  b12 j := V0 (Proc.devRef .tc main_arg9) (ix1 j)
  w20 k j := V0 (Proc.devRef .tc main_arg10) (ix2 k j)
  w21 k j := V0 (Proc.devRef .tc main_arg11) (ix2 k j)
  w22 k j := V0 (Proc.devRef .tc main_arg12) (ix2 k j)
  g20 j := V0 (Proc.devRef .tc main_arg13) (ix1 j)
  b20 j := V0 (Proc.devRef .tc main_arg14) (ix1 j)
  g21 j := V0 (Proc.devRef .tc main_arg15) (ix1 j)
  b21 j := V0 (Proc.devRef .tc main_arg16) (ix1 j)
  g22 j := V0 (Proc.devRef .tc main_arg17) (ix1 j)
  b22 j := V0 (Proc.devRef .tc main_arg18) (ix1 j)

/-- The jets of event `E`. -/
def rows (E : Fin 4096) (j : Fin 8) (k : Fin 16) : EReal := V0 (Proc.devRef .tc main_arg0) (ix3 E j k)

/-- Whether some feature of a row is not zero, as the bits' disjunction. -/
theorem any_bit (x : Fin 16 → EReal) (p : Fin 16 → Prop) (dec : ∀ k, Decidable (p k)) (h : ∀ k, p k ↔ x k ≠ 0) :
    Finset.fold IntOp.ori (0#1) (fun k => BitVec.ofBool (decide (p k))) Finset.univ = bit x := by
  have key : Finset.fold IntOp.ori (0#1) (fun k => BitVec.ofBool (decide (p k))) Finset.univ = 1#1 ↔ bit x = 1#1 := by
    rw [Routing.fold_ori]
    constructor
    · rintro ⟨k, -, hk⟩
      unfold bit
      rw [decide_eq_true ⟨k, (h k).1 (by by_contra h0; simp [h0] at hk)⟩]
      rfl
    · intro hb
      have h2 : ∃ k, x k ≠ 0 := by
        by_contra h3
        unfold bit at hb
        rw [decide_eq_false h3] at hb
        exact absurd hb (by decide)
      obtain ⟨k, hk⟩ := h2
      exact ⟨k, Finset.mem_univ k, by rw [decide_eq_true ((h k).2 hk)]; rfl⟩
  rcases bit_cases (bit x) with e | e
  · rw [e] at key ⊢
    exact (bit_cases _).resolve_right fun h1 => absurd (key.1 h1) (by decide)
  · rw [e] at key ⊢
    exact key.2 rfl

theorem v2_apply (E : Fin 4096) (j : Fin 8) : res_main_v2 V0 (ix2 E j) = bit (rows V0 E j) := by
  unfold res_main_v2
  clean_types
  pointwise
  exact any_bit (rows V0 E j) (fun k => V0 (Proc.devRef .tc main_arg0) (ix3 E j k) ≠ (0 : EReal)) _ fun k => Iff.rfl

theorem v8_apply (E : Fin 4096) : res_main_v8 V0 (ix1 E) = cnt fun j => bit (rows V0 E j) := by
  unfold res_main_v8
  have h := v2_apply V0 E
  generalize res_main_v2 V0 = M at h ⊢
  clean_types
  pointwise
  simp only [h, uitofp_bit, cnt]

theorem div_one (x : EReal) : Ideal.div x 1 = x := by
  simp [Ideal.div]

theorem root_apply : id (Host.sqrt (F := Ideal) (constant S_ FTy.f32 0x3F8020C5#32)) ix0 = root := rfl

theorem v48_apply (E : Fin 4096) (j : Fin 8) (c : Fin 256) : res_main_v48 V0 (ix3 E j c) = (raw V0).feat (rows V0 E j) c := by
  unfold res_main_v48
  have h := v2_apply V0 E
  generalize res_main_v2 V0 = M at h ⊢
  clean_types
  pointwise
  simp only [h, uitofp_bit, div_one, root_apply]
  rfl

/-- The gather from the table of pairs, at an event whose row number is in range. -/
theorem gather_table (x : IVec S7x28x2 32) (idx : IVec S4096x1 32) (E : Fin 4096) (q : Fin 28) (s : Fin 2) (k : Fin 7)
    (h : idx (ix2 E 0) = BitVec.ofNat 32 k) :
    Host.gather gather_S7x28x2_S4096x1_S4096x28x2_12_0_n_n_0_1_1282 x idx (ix3 E q s) = x (ix3 k q s) := by
  unfold Host.gather
  congr 1
  funext a
  refine Fin.ext ?_
  show (gather_S7x28x2_S4096x1_S4096x28x2_12_0_n_n_0_1_1282).start (ix3 E q s) idx a
    + (gather_S7x28x2_S4096x1_S4096x28x2_12_0_n_n_0_1_1282).batchCoord (ix3 E q s) a
    + (gather_S7x28x2_S4096x1_S4096x28x2_12_0_n_n_0_1_1282).offCoord (ix3 E q s) a = _
  match a with
  | ⟨0, _⟩ =>
    have hsi : (gather_S7x28x2_S4096x1_S4096x28x2_12_0_n_n_0_1_1282).siIdx (ix3 E q s) ⟨0, by decide⟩ = ix2 E 0 := by
      funext b
      refine Fin.ext ?_
      match b with
      | ⟨0, _⟩ => rfl
      | ⟨1, _⟩ => rfl
    have hst : (gather_S7x28x2_S4096x1_S4096x28x2_12_0_n_n_0_1_1282).start (ix3 E q s) idx 0 =
        min ((idx ((gather_S7x28x2_S4096x1_S4096x28x2_12_0_n_n_0_1_1282).siIdx (ix3 E q s) ⟨0, by decide⟩)).toInt.toNat) 6 := rfl
    rw [hsi, h] at hst
    have h2 : min (BitVec.ofNat 32 k).toInt.toNat 6 = k := (by decide : ∀ k : Fin 7, min (BitVec.ofNat 32 k).toInt.toNat 6 = k) k
    show (gather_S7x28x2_S4096x1_S4096x28x2_12_0_n_n_0_1_1282).start (ix3 E q s) idx 0 + 0 + 0 = (k : ℕ)
    rw [hst, h2]
    rfl
  | ⟨1, _⟩ =>
    show 0 + 0 + (q : ℕ) = q
    omega
  | ⟨2, _⟩ =>
    show 0 + 0 + (s : ℕ) = s
    omega

/-- The gather of jets' features, where the jet number is in range. -/
theorem gather_jet (x : FVec Ideal S4096x8x256 .f32) (idx : IVec S4096x56x1 32) (E : Fin 4096) (Q : Fin 56) (c : Fin 256) (j : Fin 8)
    (h : idx (ix3 E Q 0) = BitVec.ofNat 32 j) :
    Host.gather gather_S4096x8x256_S4096x56x1_S4096x56x256_2_1_0_0_1_2_11256 x idx (ix3 E Q c) = x (ix3 E j c) := by
  unfold Host.gather
  congr 1
  funext a
  refine Fin.ext ?_
  show (gather_S4096x8x256_S4096x56x1_S4096x56x256_2_1_0_0_1_2_11256).start (ix3 E Q c) idx a
    + (gather_S4096x8x256_S4096x56x1_S4096x56x256_2_1_0_0_1_2_11256).batchCoord (ix3 E Q c) a
    + (gather_S4096x8x256_S4096x56x1_S4096x56x256_2_1_0_0_1_2_11256).offCoord (ix3 E Q c) a = _
  match a with
  | ⟨0, _⟩ =>
    show 0 + (E : ℕ) + 0 = E
    omega
  | ⟨1, _⟩ =>
    have hsi : (gather_S4096x8x256_S4096x56x1_S4096x56x256_2_1_0_0_1_2_11256).siIdx (ix3 E Q c) ⟨0, by decide⟩ = ix3 E Q 0 := by
      funext b
      refine Fin.ext ?_
      match b with
      | ⟨0, _⟩ => rfl
      | ⟨1, _⟩ => rfl
      | ⟨2, _⟩ => rfl
    have hst : (gather_S4096x8x256_S4096x56x1_S4096x56x256_2_1_0_0_1_2_11256).start (ix3 E Q c) idx 1 =
        min ((idx ((gather_S4096x8x256_S4096x56x1_S4096x56x256_2_1_0_0_1_2_11256).siIdx (ix3 E Q c) ⟨0, by decide⟩)).toInt.toNat) 7 := rfl
    rw [hsi, h] at hst
    have h2 : min (BitVec.ofNat 32 j).toInt.toNat 7 = j := (by decide : ∀ j : Fin 8, min (BitVec.ofNat 32 j).toInt.toNat 7 = j) j
    show (gather_S4096x8x256_S4096x56x1_S4096x56x256_2_1_0_0_1_2_11256).start (ix3 E Q c) idx 1 + 0 + 0 = (j : ℕ)
    rw [hst, h2]
    rfl
  | ⟨2, _⟩ =>
    show 0 + 0 + (c : ℕ) = c
    omega

end Cert.DeepSet

end
-- ==== Proof.Finite.lean ====
/- Extended reals that are real, and the one algebraic step between the programs: a gain and a root divided into a dot
   may be multiplied into the weights before it, where everything is real. -/
module

public import proofs.«01_k».proof.Proof.Layers

@[expose] public section

noncomputable section

namespace Cert.DeepSet

open Idealize.ShloMosaic

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Every entry is real. -/
def Fin1 {α : Type} (x : α → EReal) : Prop := ∃ r : α → ℝ, x = fun k => (r k : EReal)
def Fin2 {α β : Type} (x : α → β → EReal) : Prop := ∃ r : α → β → ℝ, x = fun k c => (r k c : EReal)

theorem fin1_of {α : Type} (x : α → EReal) (h : ∀ k, ∃ r : ℝ, x k = r) : Fin1 x := by
  choose r hr using h
  exact ⟨r, funext hr⟩

theorem fin2_of {α β : Type} (x : α → β → EReal) (h : ∀ k c, ∃ r : ℝ, x k c = r) : Fin2 x := by
  choose r hr using h
  exact ⟨r, funext₂ hr⟩

/-- The number under the root. -/
theorem radicand : Ideal.ofBits FTy.f32 0x3F8020C5#32 = ((8396997 / 8388608 : ℝ) : EReal) := by
  simp [Ideal.ofBits, Ideal.ieee, -EReal.coe_mul]
  norm_num

theorem coe_max_zero (r : ℝ) : max (r : EReal) 0 = ((max r 0 : ℝ) : EReal) :=
  (EReal.coe_strictMono.monotone.map_max (a := r) (b := 0)).symm

/-- A dot of real vectors is real. -/
theorem coe_dot {α : Type} [Fintype α] (x W : α → ℝ) : ∑ k, (x k : EReal) * (W k : EReal) = ((∑ k, x k * W k : ℝ) : EReal) := by
  rw [coe_sum]
  exact Finset.sum_congr rfl fun k _ => (EReal.coe_mul _ _).symm

end Cert.DeepSet

end
-- ==== Proof.Pairs.lean ====
/- The table of pairs, and the passage from the 56 ordered pairs of its row to the 64 ordered pairs of eight jets. -/
module

public import proofs.«01_k».proof.Proof.KernelBody
public import proofs.«01_k».proof.Proof.Finite
public import proofs.«01_k».proof.Proof.Gen.Pre_well_formed

@[expose] public section

set_option maxRecDepth 16384

noncomputable section

namespace Cert.DeepSet

open Idealize.ShloMosaic

/-- The table's entry for an event of `k + 2` jets: jet number `s` of pair `q`, or all ones past the last pair. -/
def tab (k : Fin 7) (q : Fin 28) (s : Fin 2) : BitVec 32 := Cert.Pre_well_formed.lit0 ⟨(k * 28 + q) * 2 + s, by omega⟩

/-- The jet number, 0 past the last pair. -/
def jetOf (k : Fin 7) (q : Fin 28) (s : Fin 2) : Fin 8 :=
  if tab k q s = 4294967295#32 then 0 else ⟨(tab k q s).toNat % 8, Nat.mod_lt _ (by decide)⟩

/-- Whether the row has a pair `q`. -/
def inTab (k : Fin 7) (q : Fin 28) : BitVec 1 := IntOp.cmpi .ne (tab k q 0) 4294967295#32

/-- The pair of the row behind ordered pair `Q`, which comes once each way. -/
def half (Q : Fin 56) : Fin 28 := if h : (Q : ℕ) < 28 then ⟨Q, h⟩ else ⟨Q - 28, by omega⟩

/-- First and second jet of ordered pair `Q`. -/
def fstOf (k : Fin 7) (Q : Fin 56) : Fin 8 := if (Q : ℕ) < 28 then jetOf k (half Q) 0 else jetOf k (half Q) 1
def sndOf (k : Fin 7) (Q : Fin 56) : Fin 8 := if (Q : ℕ) < 28 then jetOf k (half Q) 1 else jetOf k (half Q) 0

/-- The place among the 64 of ordered pair `Q`. -/
def code (k : Fin 7) (Q : Fin 56) : Fin 64 := ⟨fstOf k Q * 8 + sndOf k Q, by omega⟩

/-- The number among the 56 of the pair at place `p`. -/
def place (k : Fin 7) (p : Fin 64) : Fin 56 :=
  let n : ℕ := k + 2
  let a : ℕ := p / 8
  let b : ℕ := p % 8
  if a < b then ⟨(a * (2 * n - a - 1) / 2 + (b - a - 1)) % 28, by omega⟩
  else ⟨(b * (2 * n - b - 1) / 2 + (a - b - 1)) % 28 + 28, by omega⟩

theorem code_spec : ∀ (k : Fin 7) (Q : Fin 56), inTab k (half Q) = 1#1 →
    pairBit (BitVec.ofNat 32 (k + 2)) (code k Q) = 1#1 ∧ place k (code k Q) = Q := by decide +kernel

theorem code_jets : ∀ (k : Fin 7) (Q : Fin 56), fstJet (code k Q) = fstOf k Q ∧ sndJet (code k Q) = sndOf k Q := by
  intro k Q
  have h1 := (fstOf k Q).isLt
  have h2 := (sndOf k Q).isLt
  exact ⟨Fin.ext (show ((fstOf k Q : ℕ) * 8 + sndOf k Q) / 8 = fstOf k Q by omega),
    Fin.ext (show ((fstOf k Q : ℕ) * 8 + sndOf k Q) % 8 = sndOf k Q by omega)⟩

theorem place_spec : ∀ (k : Fin 7) (p : Fin 64), pairBit (BitVec.ofNat 32 (k + 2)) p = 1#1 →
    inTab k (half (place k p)) = 1#1 ∧ code k (place k p) = p := by decide +kernel

theorem card_spec : ∀ k : Fin 7, 2 * (Finset.univ.filter fun q => inTab k q = 1#1).card = (k + 2) * (k + 1) := by decide +kernel

/-- Aggregates over two families of masked rows agree when the rows of one are those of the other, renumbered. -/
theorem agg_renumber {a b : Nat} (y : Fin a → Fin 256 → EReal) (M : Fin a → BitVec 1) (y' : Fin b → Fin 256 → EReal)
    (M' : Fin b → BitVec 1) (num : EReal) (c : Fin 768) (f : Fin a → Fin b) (g : Fin b → Fin a)
    (hf : ∀ p, M p = 1#1 → M' (f p) = 1#1 ∧ g (f p) = p ∧ y p = y' (f p))
    (hg : ∀ q, M' q = 1#1 → M (g q) = 1#1 ∧ f (g q) = q) : agg y M num c = agg y' M' num c := by
  have hsum : ∀ d : Fin 256, (∑ p, if M p = 1#1 then y p d else 0) = ∑ q, if M' q = 1#1 then y' q d else 0 := by
    intro d
    rw [← Finset.sum_filter, ← Finset.sum_filter]
    refine Finset.sum_bij' (fun p _ => f p) (fun q _ => g q) ?_ ?_ ?_ ?_ ?_
    · intro p hp
      exact Finset.mem_filter.2 ⟨Finset.mem_univ _, (hf p (Finset.mem_filter.1 hp).2).1⟩
    · intro q hq
      exact Finset.mem_filter.2 ⟨Finset.mem_univ _, (hg q (Finset.mem_filter.1 hq).2).1⟩
    · intro p hp
      exact (hf p (Finset.mem_filter.1 hp).2).2.1
    · intro q hq
      exact (hg q (Finset.mem_filter.1 hq).2).2
    · intro p hp
      rw [(hf p (Finset.mem_filter.1 hp).2).2.2]
  have hmax : ∀ d : Fin 256, (Finset.univ.fold max ⊥ fun p => if M p = 1#1 then y p d else ⊥) =
      Finset.univ.fold max ⊥ fun q => if M' q = 1#1 then y' q d else ⊥ := by
    intro d
    refine le_antisymm ((Finset.fold_max_le _).2 ⟨bot_le, fun p _ => ?_⟩) ((Finset.fold_max_le _).2 ⟨bot_le, fun q _ => ?_⟩)
    · by_cases h : M p = 1#1
      · obtain ⟨h1, -, h3⟩ := hf p h
        rw [if_pos h]
        refine (Finset.le_fold_max _).2 (Or.inr ⟨f p, Finset.mem_univ _, ?_⟩)
        rw [if_pos h1, h3]
      · rw [if_neg h]
        exact bot_le
    · by_cases h : M' q = 1#1
      · obtain ⟨h1, h2⟩ := hg q h
        rw [if_pos h]
        refine (Finset.le_fold_max _).2 (Or.inr ⟨g q, Finset.mem_univ _, ?_⟩)
        rw [if_pos h1, (hf _ h1).2.2, h2]
      · rw [if_neg h]
        exact bot_le
  unfold agg
  simp only [hsum, hmax]

/-- How many mask bits are set, counted. -/
theorem cnt_eq_card {n : Nat} (M : Fin n → BitVec 1) :
    cnt M = (((Finset.univ.filter fun j => M j = 1#1).card : ℝ) : EReal) := by
  unfold cnt on
  rw [Finset.card_filter]
  push_cast
  rw [coe_sum]
  refine Finset.sum_congr rfl fun j _ => ?_
  split <;> simp

/-- The number read back as a whole number. -/
theorem fptosi_count : ∀ k : Fin 7, (FloatOps.fptosi (φ := .f32) (F := Ideal) 32 ((((k + 2 : ℕ) : ℝ) : EReal) : Ideal .f32)) = BitVec.ofNat 32 (k + 2) := by
  intro k
  show Ideal.fptosi 32 _ = _
  rw [Ideal.fptosi, Ideal.toIntClamped_coe, if_pos (by positivity), Int.floor_natCast]
  revert k
  decide

end Cert.DeepSet

end
-- ==== Proof.Pre.lean ====
/- What the precondition says: every argument but the last bias is real, every event has two jets or more, and the table is the table. -/
module

public import proofs.«01_k».proof.Proof.Reference
public import proofs.«01_k».proof.Proof.Pairs
public import Idealize.ShloMosaic.Lib.ReduceAll

@[expose] public section

set_option maxRecDepth 16384

noncomputable section

namespace Cert.DeepSet

open Idealize.ShloMosaic Cert.Pre_well_formed Cert.Pre_well_formed.Facts

variable [Cert.Pre_well_formed.Facts]

instance : Subsingleton S_.Idx := ⟨fun a b => funext fun i => i.elim0⟩

/-- One argument's test that it is real everywhere. -/
theorem all_real {s : Shape} {axes : List (Fin s.rank)} (x : FVec Ideal s .f32) (hb : S_.BroadcastsInDim s (![] : Fin 0 → Fin s.rank)) (h : s.ReducesTo axes S_) (hu : 0 < S_.numel)
    (j : S_.Idx) (e : Host.reduce IntOp.andi (cmpf .olt (Host.absf x) (broadcastInDim s ![] hb (constant S_ .f32 0x7F800000#32)))
      (constantI S_ 1 1#1) h hu j = 1#1) (i : s.Idx) : ∃ r : ℝ, x i = (r : EReal) := by
  have h1 := Host.reduce_andi_all _ _ h hu j e i
  have htop : Ideal.ofBits .f32 0x7F800000#32 = ⊤ := by simp [Ideal.ofBits, Ideal.ieee]
  have h2 : BitVec.ofBool (decide (max (x i : EReal) (-(x i)) < (⊤ : EReal))) = 1#1 := by
    rw [← htop]
    exact h1
  have h3 : max (x i : EReal) (-(x i)) < ⊤ := by
    by_contra h4
    rw [decide_eq_false h4] at h2
    exact absurd h2 (by decide)
  obtain ⟨h5, h6⟩ := max_lt_iff.1 h3
  generalize (x i : EReal) = y at h5 h6
  induction y using EReal.rec with
  | bot => simp at h6
  | top => simp at h5
  | coe r => exact ⟨r, rfl⟩

/-- The table's entry at its row-major place. -/
theorem tab_eq (k : Fin 7) (q : Fin 28) (s : Fin 2) (i : Fin 392) (hi : (i : ℕ) = (k * 28 + q) * 2 + s) : lit0 i = tab k q s := by
  rw [show i = ⟨(k * 28 + q) * 2 + s, by omega⟩ from Fin.ext hi]
  delta tab
  rfl

/-- Two, as a real number. -/
theorem two_coe : (2 : EReal) = ((2 : ℝ) : EReal) := by norm_cast

theorem pre_spec (a0 : FVec Ideal S4096x8x16 .f32) (a1 : FVec Ideal S16x256 .f32) (a2 : FVec Ideal S256x256 .f32) (a3 : FVec Ideal S256x256 .f32) (a4 : FVec Ideal S256 .f32) (a5 : FVec Ideal S256 .f32) (a6 : FVec Ideal S256 .f32) (a7 : FVec Ideal S256 .f32) (a8 : FVec Ideal S256 .f32) (a9 : FVec Ideal S256 .f32) (a10 : FVec Ideal S512x256 .f32) (a11 : FVec Ideal S256x256 .f32) (a12 : FVec Ideal S256x256 .f32) (a13 : FVec Ideal S256 .f32) (a14 : FVec Ideal S256 .f32) (a15 : FVec Ideal S256 .f32) (a16 : FVec Ideal S256 .f32) (a17 : FVec Ideal S256 .f32) (a18 : FVec Ideal S256 .f32) (a19 : IVec S7x28x2 32)
    (h : Cert.Pre_well_formed.fn (F := Ideal) a0 a1 a2 a3 a4 a5 a6 a7 a8 a9 a10 a11 a12 a13 a14 a15 a16 a17 a18 a19 = fun _ => 1#1) :
    (∀ i, ∃ r : ℝ, a0 i = (r : EReal))
    ∧ (∀ i, ∃ r : ℝ, a1 i = (r : EReal))
    ∧ (∀ i, ∃ r : ℝ, a2 i = (r : EReal))
    ∧ (∀ i, ∃ r : ℝ, a3 i = (r : EReal))
    ∧ (∀ i, ∃ r : ℝ, a4 i = (r : EReal))
    ∧ (∀ i, ∃ r : ℝ, a5 i = (r : EReal))
    ∧ (∀ i, ∃ r : ℝ, a6 i = (r : EReal))
    ∧ (∀ i, ∃ r : ℝ, a7 i = (r : EReal))
    ∧ (∀ i, ∃ r : ℝ, a8 i = (r : EReal))
    ∧ (∀ i, ∃ r : ℝ, a9 i = (r : EReal))
    ∧ (∀ i, ∃ r : ℝ, a10 i = (r : EReal))
    ∧ (∀ i, ∃ r : ℝ, a11 i = (r : EReal))
    ∧ (∀ i, ∃ r : ℝ, a12 i = (r : EReal))
    ∧ (∀ i, ∃ r : ℝ, a13 i = (r : EReal))
    ∧ (∀ i, ∃ r : ℝ, a14 i = (r : EReal))
    ∧ (∀ i, ∃ r : ℝ, a15 i = (r : EReal))
    ∧ (∀ i, ∃ r : ℝ, a16 i = (r : EReal))
    ∧ (∀ i, ∃ r : ℝ, a17 i = (r : EReal))
    ∧ (∀ E : Fin 4096, (2 : EReal) ≤ cnt fun j => bit fun k => a0 (ix3 E j k)) ∧ ∀ k q s, a19 (ix3 k q s) = tab k q s := by
  have e := congrFun h ix0
  dsimp only [fn, fn_part1, fn_part2, fn_part3, fn_part4, fn_part5, fn_part6] at e
  simp only [andi_apply, IntOp.andi_eq_one] at e
  obtain ⟨⟨⟨⟨⟨⟨⟨⟨⟨⟨⟨⟨⟨⟨⟨⟨⟨⟨⟨⟨-, e0⟩, e1⟩, e2⟩, e3⟩, e4⟩, e5⟩, e6⟩, e7⟩, e8⟩, e9⟩, e10⟩, e11⟩, e12⟩, e13⟩, e14⟩, e15⟩, e16⟩, e17⟩, en⟩, et⟩ := e
  refine ⟨all_real a0 _ _ _ _ e0, all_real a1 _ _ _ _ e1, all_real a2 _ _ _ _ e2, all_real a3 _ _ _ _ e3, all_real a4 _ _ _ _ e4, all_real a5 _ _ _ _ e5, all_real a6 _ _ _ _ e6, all_real a7 _ _ _ _ e7, all_real a8 _ _ _ _ e8, all_real a9 _ _ _ _ e9, all_real a10 _ _ _ _ e10, all_real a11 _ _ _ _ e11, all_real a12 _ _ _ _ e12, all_real a13 _ _ _ _ e13, all_real a14 _ _ _ _ e14, all_real a15 _ _ _ _ e15, all_real a16 _ _ _ _ e16, all_real a17 _ _ _ _ e17, fun E => ?_, fun k q s => ?_⟩
  · have h1 := Host.reduce_andi_all _ _ _ _ _ en (ix1 E)
    revert h1
    pointwise
    intro h2
    have h3 : Ideal.ofBits FTy.f32 0x40000000#32 = ((2 : ℝ) : EReal) := by
      simp [Ideal.ofBits, Ideal.ieee, -EReal.coe_mul]
      norm_num
    have h4 := of_decide_eq_true (Bool.eq_true_of_not_eq_false fun h5 => by rw [h5] at h2; exact absurd h2 (by decide))
    rw [h3] at h4
    refine two_coe.le.trans (h4.trans_eq (Finset.sum_congr rfl fun j _ => ?_))
    rw [uitofp_bit]
    exact congrArg on (any_bit (fun k => a0 (ix3 E j k)) (fun k => a0 (ix3 E j k) ≠ (0 : EReal)) _ fun k => Iff.rfl)
  · have h1 := Host.reduce_andi_all _ _ _ _ _ et (ix3 k q s)
    revert h1
    pointwise
    intro h2
    rw [IntOp.cmpi_eq.1 h2]
    exact tab_eq k q s _ (Shape.rowMajor_val_three (ix3 k q s))

end Cert.DeepSet

end
-- ==== Proof.Scaling.lean ====
/- The kernel's layers, whose weights carry gain and root, are the reference's, where every entry is real. -/
module

public import proofs.«01_k».proof.Proof.Finite
public import proofs.«01_k».proof.Proof.KernelArray
public import proofs.«01_k».proof.Proof.Reference

@[expose] public section

noncomputable section

namespace Cert.DeepSet

open Idealize.ShloMosaic

theorem root_real : ∃ q : ℝ, q ≠ 0 ∧ root = (q : EReal) ∧ scale = ((1 / q : ℝ) : EReal) := by
  have hpos : (0 : ℝ) < Real.sqrt (8396997 / 8388608) := Real.sqrt_pos.2 (by norm_num)
  have hr : root = ((Real.sqrt (8396997 / 8388608) : ℝ) : EReal) := by
    unfold root
    rw [radicand, Ideal.sqrt_coe, if_neg (by norm_num)]
  refine ⟨Real.sqrt (8396997 / 8388608), hpos.ne', hr, ?_⟩
  show Ideal.div 1 root = _
  rw [hr, Ideal.div_coe hpos.ne', one_mul]

/-- A dot with scaled weights, and the same dot divided by the root and multiplied by the gain. -/
theorem dot_scl {α : Type} [Fintype α] (x W : α → ℝ) (g : ℝ) : ∃ s t : ℝ,
    ∑ k, (x k : EReal) * (W k : EReal) = (s : EReal) ∧ ∑ k, (x k : EReal) * scl (W k) g = ((g * (s * t) : ℝ) : EReal)
      ∧ ∀ y : EReal, Ideal.div y root = y * (t : EReal) := by
  obtain ⟨q, hq, hroot, hscale⟩ := root_real
  refine ⟨∑ k, x k * W k, 1 / q, coe_dot x W, ?_, fun y => by rw [hroot, Ideal.div_coe hq]⟩
  have h : ∀ k, scl (W k : EReal) (g : EReal) = ((W k * (g * (1 / q)) : ℝ) : EReal) := by
    intro k
    unfold scl
    rw [hscale, ← EReal.coe_mul, ← EReal.coe_mul]
  simp only [h]
  rw [coe_dot, EReal.coe_eq_coe_iff, Finset.sum_mul, Finset.mul_sum]
  exact Finset.sum_congr rfl fun k _ => by ring

/-- One layer. -/
theorem lin_scl {n : Nat} (x : Fin n → EReal) (W : Fin n → Fin 256 → EReal) (g b : Fin 256 → EReal) (hx : Fin1 x) (hW : Fin2 W)
    (hg : Fin1 g) : lin x (fun k c => scl (W k c) (g c)) b = glin x W g b := by
  obtain ⟨x, rfl⟩ := hx
  obtain ⟨W, rfl⟩ := hW
  obtain ⟨g, rfl⟩ := hg
  funext c
  obtain ⟨s, t, h1, h2, h3⟩ := dot_scl x (fun k => W k c) (g c)
  unfold lin glin
  rw [h1, h2, h3, ← EReal.coe_mul, ← EReal.coe_mul]

/-- The layer over two vectors side by side. -/
theorem lin_scl2 (u v : Fin 256 → EReal) (W W' : Fin 256 → Fin 256 → EReal) (g b : Fin 256 → EReal) (hu : Fin1 u) (hv : Fin1 v)
    (hW : Fin2 W) (hW' : Fin2 W') (hg : Fin1 g) (c : Fin 256) :
    max (∑ k, u k * scl (W k c) (g c) + ∑ k, v k * scl (W' k c) (g c) + b c) 0 =
      max (g c * Ideal.div (∑ k, u k * W k c + ∑ k, v k * W' k c) root + b c) 0 := by
  obtain ⟨u, rfl⟩ := hu
  obtain ⟨v, rfl⟩ := hv
  obtain ⟨W, rfl⟩ := hW
  obtain ⟨W', rfl⟩ := hW'
  obtain ⟨g, rfl⟩ := hg
  obtain ⟨q, hq, hroot, hscale⟩ := root_real
  obtain ⟨s, t, h1, h2, h3⟩ := dot_scl u (fun k => W k c) (g c)
  obtain ⟨s', t', h1', h2', h3'⟩ := dot_scl v (fun k => W' k c) (g c)
  have ht : t = t' := by
    have h4 := (h3 1).symm.trans (h3' 1)
    rw [one_mul, one_mul] at h4
    exact EReal.coe_eq_coe_iff.1 h4
  subst ht
  rw [h1, h2, h1', h2', h3, ← EReal.coe_add, ← EReal.coe_add, ← EReal.coe_mul, ← EReal.coe_mul]
  congr 3
  ring

theorem glin_real {n : Nat} (x : Fin n → EReal) (W : Fin n → Fin 256 → EReal) (g b : Fin 256 → EReal) (hx : Fin1 x) (hW : Fin2 W)
    (hg : Fin1 g) (hb : Fin1 b) : Fin1 (glin x W g b) := by
  obtain ⟨x, rfl⟩ := hx
  obtain ⟨W, rfl⟩ := hW
  obtain ⟨g, rfl⟩ := hg
  obtain ⟨b, rfl⟩ := hb
  refine fin1_of _ fun c => ?_
  obtain ⟨s, t, h1, h2, h3⟩ := dot_scl x (fun k => W k c) (g c)
  unfold glin
  rw [h1, h3, ← EReal.coe_mul, ← EReal.coe_mul, ← EReal.coe_add, coe_max_zero]
  exact ⟨_, rfl⟩

/-- The reference's arguments are real, but for the last bias, of which nothing is asked. -/
structure Raw.Real (R : Raw) : Prop where
  w10 : Fin2 R.w10
  g10 : Fin1 R.g10
  b10 : Fin1 R.b10
  w11 : Fin2 R.w11
  g11 : Fin1 R.g11
  b11 : Fin1 R.b11
  w12 : Fin2 R.w12
  g12 : Fin1 R.g12
  b12 : Fin1 R.b12
  w20 : Fin2 R.w20
  g20 : Fin1 R.g20
  b20 : Fin1 R.b20
  w21 : Fin2 R.w21
  g21 : Fin1 R.g21
  b21 : Fin1 R.b21
  w22 : Fin2 R.w22
  g22 : Fin1 R.g22

/-- The weights scaled by gain and root. -/
def Raw.net (R : Raw) : Net where
  w10 k c := scl (R.w10 k c) (R.g10 c)
  b10 := R.b10
  w11 k c := scl (R.w11 k c) (R.g11 c)
  b11 := R.b11
  w12 k c := scl (R.w12 k c) (R.g12 c)
  b12 := R.b12
  w2a k c := scl (R.w20 ⟨k, by omega⟩ c) (R.g20 c)
  w2b k c := scl (R.w20 ⟨256 + k, by omega⟩ c) (R.g20 c)
  b20 := R.b20
  w21 k c := scl (R.w21 k c) (R.g21 c)
  b21 := R.b21
  w22 k c := scl (R.w22 k c) (R.g22 c)
  b22 := R.b22

theorem jet_eq (R : Raw) (h : R.Real) (x : Fin 16 → EReal) (hx : Fin1 x) : R.net.jet x = R.jet x := by
  have h1 := glin_real x R.w10 R.g10 R.b10 hx h.w10 h.g10 h.b10
  have h2 := glin_real _ R.w11 R.g11 R.b11 h1 h.w11 h.g11 h.b11
  unfold Net.jet Raw.jet Raw.net
  dsimp only
  rw [lin_scl x R.w10 R.g10 R.b10 hx h.w10 h.g10, lin_scl _ R.w11 R.g11 R.b11 h1 h.w11 h.g11, lin_scl _ R.w12 R.g12 R.b12 h2 h.w12 h.g12]

theorem jet_real (R : Raw) (h : R.Real) (x : Fin 16 → EReal) (hx : Fin1 x) : Fin1 (R.jet x) :=
  glin_real _ _ _ _ (glin_real _ _ _ _ (glin_real _ _ _ _ hx h.w10 h.g10 h.b10) h.w11 h.g11 h.b11) h.w12 h.g12 h.b12

theorem feat_real (R : Raw) (h : R.Real) (x : Fin 16 → EReal) (hx : Fin1 x) : Fin1 (R.feat x) := by
  obtain ⟨r, hr⟩ := jet_real R h x hx
  refine fin1_of _ fun c => ?_
  unfold Raw.feat
  rw [mul_on, hr]
  split
  · exact ⟨_, rfl⟩
  · exact ⟨0, rfl⟩

theorem feat_eq (R : Raw) (h : R.Real) (x : Fin 16 → EReal) (hx : Fin1 x) : R.net.feat x = R.feat x := by
  funext c
  unfold Net.feat Raw.feat
  rw [jet_eq R h x hx]

theorem pair_eq (R : Raw) (h : R.Real) (u v : Fin 256 → EReal) (hu : Fin1 u) (hv : Fin1 v) : R.net.pair u v = R.pair u v := by
  have hW : Fin2 fun (k : Fin 256) (c : Fin 256) => R.w20 ⟨k, by omega⟩ c := by
    obtain ⟨r, hr⟩ := h.w20
    exact fin2_of _ fun k c => ⟨r ⟨k, by omega⟩ c, by rw [hr]⟩
  have hW' : Fin2 fun (k : Fin 256) (c : Fin 256) => R.w20 ⟨256 + k, by omega⟩ c := by
    obtain ⟨r, hr⟩ := h.w20
    exact fin2_of _ fun k c => ⟨r ⟨256 + k, by omega⟩ c, by rw [hr]⟩
  have h1 : Fin1 fun c => max (R.g20 c * Ideal.div (∑ k : Fin 256, u k * R.w20 ⟨k, by omega⟩ c + ∑ k : Fin 256, v k * R.w20 ⟨256 + k, by omega⟩ c) root
      + R.b20 c) 0 := by
    obtain ⟨u, rfl⟩ := hu
    obtain ⟨v, rfl⟩ := hv
    obtain ⟨W, hW⟩ := h.w20
    obtain ⟨g, hg⟩ := h.g20
    obtain ⟨b, hb⟩ := h.b20
    rw [hW, hg, hb]
    refine fin1_of _ fun c => ?_
    obtain ⟨s, t, h1, -, h3⟩ := dot_scl u (fun k => W ⟨k, by omega⟩ c) (g c)
    obtain ⟨s', t', h1', -, -⟩ := dot_scl v (fun k => W ⟨256 + k, by omega⟩ c) (g c)
    rw [h1, h1', h3, ← EReal.coe_add, ← EReal.coe_mul, ← EReal.coe_mul, ← EReal.coe_add, coe_max_zero]
    exact ⟨_, rfl⟩
  have h2 := glin_real _ R.w21 R.g21 R.b21 h1 h.w21 h.g21 h.b21
  unfold Net.pair Raw.pair Raw.net
  dsimp only
  rw [show (fun c => max (∑ k : Fin 256, u k * scl (R.w20 ⟨k, by omega⟩ c) (R.g20 c) + ∑ k : Fin 256, v k * scl (R.w20 ⟨256 + k, by omega⟩ c) (R.g20 c)
      + R.b20 c) 0) = _ from funext fun c => lin_scl2 u v _ _ R.g20 R.b20 hu hv hW hW' h.g20 c,
    lin_scl _ R.w21 R.g21 R.b21 h1 h.w21 h.g21, lin_scl _ R.w22 R.g22 R.b22 h2 h.w22 h.g22]

end Cert.DeepSet

end
-- ==== Proof.Equal.lean ====
/- The kernel's aggregates are the reference's: the same rows, renumbered, under layers that agree. -/
module

public import proofs.«01_k».proof.Proof.Scaling
public import proofs.«01_k».proof.Proof.Pairs

@[expose] public section

noncomputable section

namespace Cert.DeepSet

open Idealize.ShloMosaic

/-- Twice the number of pairs in the table is the number of ordered pairs. -/
theorem count_pairs (k : Fin 7) : ((((k + 2 : ℕ) : ℝ) : EReal)) * ((((k + 2 : ℕ) : ℝ) : EReal) - 1) = 2 * cnt (inTab k) := by
  have h : (2 : ℝ) * ((Finset.univ.filter fun q => inTab k q = 1#1).card : ℝ) = ((k + 2 : ℕ) : ℝ) * (((k + 2 : ℕ) : ℝ) - 1) := by
    have h1 := card_spec k
    have h2 : (2 : ℝ) * ((Finset.univ.filter fun q => inTab k q = 1#1).card : ℝ) = (((k : ℕ) + 2 : ℝ)) * ((k : ℕ) + 1) := by
      exact_mod_cast h1
    rw [h2]
    push_cast
    ring
  rw [cnt_eq_card, show (2 : EReal) = ((2 : ℝ) : EReal) by norm_cast, show (1 : EReal) = ((1 : ℝ) : EReal) by norm_cast,
    ← EReal.coe_sub, ← EReal.coe_mul, ← EReal.coe_mul, h]

variable (R : Raw) (h : R.Real) (X : Fin 8 → Fin 16 → EReal) (hX : ∀ j, Fin1 (X j)) (k : Fin 7)

include h hX

theorem out1_eq : R.net.out1 X = agg (fun j => R.jet (X j)) (fun j => bit (X j)) (cnt fun j => bit (X j)) := by
  unfold Net.out1
  simp only [fun j => jet_eq R h (X j) (hX j)]

theorem out2_eq (hn : (cnt fun j => bit (X j)) = ((((k + 2 : ℕ) : ℝ) : EReal))) (c : Fin 768) : R.net.out2 X c =
    agg (fun Q => R.pair (R.feat (X (fstOf k Q))) (R.feat (X (sndOf k Q)))) (fun Q => inTab k (half Q)) (2 * cnt (inTab k)) c := by
  unfold Net.out2
  rw [hn, fptosi_count, count_pairs]
  refine agg_renumber _ _ _ _ _ c (place k) (code k) (fun p hp => ?_) (fun Q hQ => code_spec k Q hQ)
  obtain ⟨h1, h2⟩ := place_spec k p hp
  obtain ⟨h3, h4⟩ := code_jets k (place k p)
  rw [h2] at h3 h4
  refine ⟨h1, h2, ?_⟩
  rw [h3, h4, feat_eq R h _ (hX _), feat_eq R h _ (hX _), pair_eq R h _ _ (feat_real R h _ (hX _)) (feat_real R h _ (hX _))]

omit h hX in
/-- A number of jets from two on is one of seven. -/
theorem count_cases (h2 : (2 : EReal) ≤ cnt fun j => bit (X j)) : ∃ k : Fin 7, (cnt fun j => bit (X j)) = ((((k + 2 : ℕ) : ℝ) : EReal)) := by
  rw [cnt_eq_card] at h2 ⊢
  have h8 := Finset.card_le_univ (Finset.univ.filter fun j : Fin 8 => bit (X j) = 1#1)
  rw [Fintype.card_fin] at h8
  generalize (Finset.univ.filter fun j : Fin 8 => bit (X j) = 1#1).card = n at h2 h8 ⊢
  rw [show (2 : EReal) = ((2 : ℝ) : EReal) by norm_cast, EReal.coe_le_coe_iff] at h2
  have h3 : 2 ≤ n := by exact_mod_cast h2
  exact ⟨⟨n - 2, by omega⟩, by rw [show n - 2 + 2 = n by omega]⟩

end Cert.DeepSet

end
-- ==== Proof.RefPairs.lean ====
/- The reference's pairs of jets, at an event whose number of jets is known and in range. -/
module

public import proofs.«01_k».proof.Proof.Reference
public import proofs.«01_k».proof.Proof.Pairs

@[expose] public section

set_option maxRecDepth 16384

noncomputable section

namespace Cert.DeepSet

open Idealize.ShloMosaic Cert.ReferenceIdeal Cert.ReferenceIdeal.Gen Cert.ReferenceIdeal.Value
open Idealize.ShloMosaic.StableHlo

/-- The entry, with 0 past the last pair, is the jet number. -/
theorem tab_clean : ∀ (k : Fin 7) (q : Fin 28) (s : Fin 2),
    Scalar.select (IntOp.cmpi .eq (tab k q s) 4294967295#32) 0#32 (tab k q s) = BitVec.ofNat 32 (jetOf k q s) := by decide +kernel

/-- The bounds check of a row number in range. -/
theorem row_in : ∀ k : Fin 7, IntOp.andi (1#1) (IntOp.andi (IntOp.cmpi .sge (BitVec.ofNat 32 k) 0#32) (IntOp.cmpi .sle (BitVec.ofNat 32 k) 6#32)) = 1#1 := by
  decide

/-- The bounds check of a jet number in range. -/
theorem jet_in : ∀ j : Fin 8, IntOp.andi (1#1) (IntOp.andi (IntOp.cmpi .sge (BitVec.ofNat 32 j) 0#32) (IntOp.cmpi .sle (BitVec.ofNat 32 j) 7#32)) = 1#1 := by
  decide

/-- A conjunction over one bit. -/
theorem fold_one (f : Fin 1 → BitVec 1) : Finset.fold IntOp.andi (1#1) f Finset.univ = IntOp.andi (1#1) (f 0) := by
  rcases bit_cases (f 0) with h | h <;> simp [Finset.univ_unique, h, IntOp.andi]

variable (V0 : Valuation τ sig (Elt Ideal)) (E : Fin 4096) (k : Fin 7)

/-- The reference's row of the table. -/
theorem v51_apply (hn : res_main_v8 V0 (ix1 E) = ((((k + 2 : ℕ) : ℝ) : EReal))) : res_main_v51 V0 (ix1 E) = BitVec.ofNat 32 k := by
  unfold res_main_v51
  generalize res_main_v8 V0 = n at hn ⊢
  clean_types
  pointwise
  rw [hn, fptosi_count]
  exact (by decide : ∀ k : Fin 7, IntOp.subi (BitVec.ofNat 32 (k + 2)) 2#32 = BitVec.ofNat 32 k) k

theorem row_apply (hn : res_main_v8 V0 (ix1 E) = ((((k + 2 : ℕ) : ℝ) : EReal))) (u : Fin 1) :
    res_main_call3_v5 V0 (ix2 E u) = BitVec.ofNat 32 k := by
  have h := v51_apply V0 E k hn
  unfold res_main_call3_v5
  generalize res_main_v51 V0 = n at h ⊢
  clean_types
  pointwise
  rw [h]
  exact (by decide : ∀ k : Fin 7, Scalar.select (IntOp.cmpi .slt (BitVec.ofNat 32 k) 0#32) (IntOp.addi (BitVec.ofNat 32 k) 7#32)
    (BitVec.ofNat 32 k) = BitVec.ofNat 32 k) k

theorem v52_apply (hn : res_main_v8 V0 (ix1 E) = ((((k + 2 : ℕ) : ℝ) : EReal)))
    (ht : ∀ k q s, V0 (Proc.devRef .tc main_arg19) (ix3 k q s) = tab k q s) (q : Fin 28) (s : Fin 2) :
    res_main_v52 V0 (ix3 E q s) = tab k q s := by
  have h := row_apply V0 E k hn
  unfold res_main_v52
  generalize res_main_call3_v5 V0 = n at h ⊢
  have hg := gather_table (V0 (Proc.devRef .tc main_arg19)) n E q s k (h 0)
  rw [ht] at hg
  generalize Host.gather gather_S7x28x2_S4096x1_S4096x28x2_12_0_n_n_0_1_1282 (V0 (Proc.devRef .tc main_arg19)) n = G at hg ⊢
  clean_types
  pointwise
  rw [fold_one, h, row_in, hg]
  rfl

theorem v56_apply (h : ∀ q s, res_main_v52 V0 (ix3 E q s) = tab k q s) (q : Fin 28) : res_main_v56 V0 (ix2 E q) = inTab k q := by
  unfold res_main_v56
  generalize res_main_v52 V0 = n at h ⊢
  clean_types
  pointwise
  rw [h]
  rfl

theorem v61_apply (h : ∀ q s, res_main_v52 V0 (ix3 E q s) = tab k q s) (q : Fin 28) (s : Fin 2) (u : Fin 1) :
    res_main_v61 V0 (ix3 E (⟨q * 2 + s, by omega⟩ : Fin 56) u) = BitVec.ofNat 32 (jetOf k q s) := by
  unfold res_main_v61
  generalize res_main_v52 V0 = n at h ⊢
  clean_types
  pointwise
  rw [h]
  exact tab_clean k q s

theorem v4_apply (h : ∀ (q : Fin 28) (s : Fin 2) (u : Fin 1), res_main_v61 V0 (ix3 E (⟨q * 2 + s, by omega⟩ : Fin 56) u) = BitVec.ofNat 32 (jetOf k q s)) (q : Fin 28) (s : Fin 2) (u : Fin 1) :
    res_main_call5_v4 V0 (ix3 E (⟨q * 2 + s, by omega⟩ : Fin 56) u) = BitVec.ofNat 32 (jetOf k q s) := by
  unfold res_main_call5_v4
  generalize res_main_v61 V0 = n at h ⊢
  clean_types
  pointwise
  rw [h]
  generalize jetOf k q s = j
  revert j
  decide

theorem v63_apply (h : ∀ (q : Fin 28) (s : Fin 2) (u : Fin 1), res_main_call5_v4 V0 (ix3 E (⟨q * 2 + s, by omega⟩ : Fin 56) u) = BitVec.ofNat 32 (jetOf k q s))
    (q : Fin 28) (s : Fin 2) (c : Fin 256) :
    res_main_v63 V0 (ix4 E q s c) = (raw V0).feat (rows V0 E (jetOf k q s)) c := by
  unfold res_main_v63
  generalize res_main_call5_v4 V0 = n at h ⊢
  have hg := gather_jet (res_main_v48 V0) n E ⟨q * 2 + s, by omega⟩ c (jetOf k q s) (h q s 0)
  rw [v48_apply] at hg
  generalize Host.gather gather_S4096x8x256_S4096x56x1_S4096x56x256_2_1_0_0_1_2_11256 (res_main_v48 V0) n = G at hg ⊢
  clean_types
  pointwise
  rw [fold_one, h, jet_in, hg]
  rfl

theorem v65_apply (h : ∀ q s c, res_main_v63 V0 (ix4 E q s c) = (raw V0).feat (rows V0 E (jetOf k q s)) c) (Q : Fin 56) (c : Fin 256) :
    res_main_v65 V0 (ix4 E Q 0 c) = (raw V0).feat (rows V0 E (fstOf k Q)) c ∧
    res_main_v65 V0 (ix4 E Q 1 c) = (raw V0).feat (rows V0 E (sndOf k Q)) c := by
  unfold res_main_v65
  generalize res_main_v63 V0 = n at h ⊢
  clean_types
  constructor <;> pointwise
  · simp only [fstOf, half]
    split
    · rw [h]
    · simp
      rw [h]
  · simp only [sndOf, half]
    split
    · rw [h]
    · simp
      rw [h]

theorem v71_apply (h : ∀ q, res_main_v56 V0 (ix2 E q) = inTab k q) (Q : Fin 56) : res_main_v71 V0 (ix2 E Q) = inTab k (half Q) := by
  unfold res_main_v71
  generalize res_main_v56 V0 = n at h ⊢
  clean_types
  pointwise
  simp only [half]
  split <;> rw [h]

theorem v116_apply (h : ∀ Q c, res_main_v65 V0 (ix4 E Q 0 c) = (raw V0).feat (rows V0 E (fstOf k Q)) c ∧
      res_main_v65 V0 (ix4 E Q 1 c) = (raw V0).feat (rows V0 E (sndOf k Q)) c)
    (hm : ∀ Q, res_main_v71 V0 (ix2 E Q) = inTab k (half Q)) (Q : Fin 56) (c : Fin 256) :
    res_main_v116 V0 (ix3 E Q c) = (raw V0).pair ((raw V0).feat (rows V0 E (fstOf k Q))) ((raw V0).feat (rows V0 E (sndOf k Q))) c
      * on (inTab k (half Q)) := by
  unfold res_main_v116
  generalize res_main_v71 V0 = M at hm ⊢
  generalize res_main_v65 V0 = n at h ⊢
  clean_types
  pointwise
  have h0 : ∀ c, n (ix4 E Q 0 c) = (raw V0).feat (rows V0 E (fstOf k Q)) c := fun c => (h Q c).1
  have h1 : ∀ c, n (ix4 E Q 1 c) = (raw V0).feat (rows V0 E (sndOf k Q)) c := fun c => (h Q c).2
  simp only [h0, h1, hm, uitofp_bit, root_apply]
  rfl

end Cert.DeepSet

end
-- ==== Proof.RefOut.lean ====
/- The reference's two results at an event: aggregates of its jets and of its pairs. -/
module

public import proofs.«01_k».proof.Proof.RefPairs

@[expose] public section

set_option maxRecDepth 16384

noncomputable section

namespace Cert.DeepSet

open Idealize.ShloMosaic Cert.ReferenceIdeal Cert.ReferenceIdeal.Gen Cert.ReferenceIdeal.Value
open Idealize.ShloMosaic.StableHlo

variable (V0 : Valuation τ sig (Elt Ideal)) (E : Fin 4096) (k : Fin 7)

/-- The first result array. -/
def ref1 : FVec Ideal S4096x1x768 .f32 :=
  broadcastInDim S4096x1x768 ![0, 2] bcast_S4096x768_S4096x1x768_0_2 ((concatenate S4096x768 1 [⟨S4096x256, ((Host.divf (res_main_v122 V0) (broadcastInDim S4096x256 ![0, 1] bcast_S4096x1_S4096x256_0_1 (broadcastInDim S4096x1 ![0] bcast_S4096_S4096x1_0 (res_main_v8 V0)))) : FVec Ideal S4096x256 .f32)⟩, ⟨S4096x256, ((Host.reduce FloatOps.maximumf (select (broadcastInDim S4096x8x256 ![0, 1, 2] bcast_S4096x8x1_S4096x8x256_0_1_2 (broadcastInDim S4096x8x1 ![0, 1] bcast_S4096x8_S4096x8x1_0_1 (res_main_v2 V0))) (res_main_v48 V0) (broadcastInDim S4096x8x256 ![] bcast_S_S4096x8x256 (id (constant (F := Ideal) S_ .f32 0xFF800000#32)))) (constant (F := Ideal) S_ .f32 0xFF800000#32) reducesTo_S4096x8x256_S4096x256_d1 h_S_) : FVec Ideal S4096x256 .f32)⟩, ⟨S4096x256, ((res_main_v122 V0) : FVec Ideal S4096x256 .f32)⟩] concatenates_S4096x256_S4096x256_S4096x256_S4096x768_d1 : FVec Ideal S4096x768 .f32))

/-- The second result array. -/
def ref2 : FVec Ideal S4096x1x768 .f32 :=
  broadcastInDim S4096x1x768 ![0, 2] bcast_S4096x768_S4096x1x768_0_2 ((concatenate S4096x768 1 [⟨S4096x256, ((Host.divf (res_main_v133 V0) (broadcastInDim S4096x256 ![0, 1] bcast_S4096x1_S4096x256_0_1 (mulf (broadcastInDim S4096x1 ![] bcast_S_S4096x1 (constant (F := Ideal) S_ .f32 0x40000000#32)) (broadcastInDim S4096x1 ![0] bcast_S4096_S4096x1_0 (Host.reduceAdd (uitofp .f32 (res_main_v56 V0)) (constant (F := Ideal) S_ .f32 0x00000000#32) reducesTo_S4096x28_S4096_d1 h_S_))))) : FVec Ideal S4096x256 .f32)⟩, ⟨S4096x256, ((Host.reduce FloatOps.maximumf (select (broadcastInDim S4096x56x256 ![0, 1, 2] bcast_S4096x56x1_S4096x56x256_0_1_2 (broadcastInDim S4096x56x1 ![0, 1] bcast_S4096x56_S4096x56x1_0_1 (res_main_v71 V0))) (res_main_v116 V0) (broadcastInDim S4096x56x256 ![] bcast_S_S4096x56x256 (id (constant (F := Ideal) S_ .f32 0xFF800000#32)))) (constant (F := Ideal) S_ .f32 0xFF800000#32) reducesTo_S4096x56x256_S4096x256_d1 h_S_) : FVec Ideal S4096x256 .f32)⟩, ⟨S4096x256, ((res_main_v133 V0) : FVec Ideal S4096x256 .f32)⟩] concatenates_S4096x256_S4096x256_S4096x256_S4096x768_d1 : FVec Ideal S4096x768 .f32))

theorem neg_inf_apply : id (constant (F := Ideal) S_ FTy.f32 0xFF800000#32) ix0 = ⊥ := ofBits_neg_inf

theorem ofBits_two : Ideal.ofBits FTy.f32 0x40000000#32 = 2 := by
  rw [show (2 : EReal) = ((2 : ℝ) : EReal) by norm_cast]
  simp [Ideal.ofBits, Ideal.ieee, -EReal.coe_mul]
  norm_num

theorem ref1_apply (u : Fin 1) (c : Fin 768) : ref1 V0 (ix3 E u c) =
    agg (fun j => (raw V0).jet (rows V0 E j)) (fun j => bit (rows V0 E j)) (cnt fun j => bit (rows V0 E j)) c := by
  unfold ref1 res_main_v122
  have h2 := v2_apply V0 E
  have h8 := v8_apply V0 E
  have h48 := v48_apply V0 E
  generalize res_main_v2 V0 = M at h2 ⊢
  generalize res_main_v8 V0 = n at h8 ⊢
  generalize res_main_v48 V0 = y at h48 ⊢
  clean_types
  pointwise
  simp only [h2, h8, h48, Raw.feat, ofBits_neg_inf, uitofp_bit, select_mul_on]
  simp only [mul_on_on, neg_inf_apply, agg]

theorem ref2_apply (h56 : ∀ q, res_main_v56 V0 (ix2 E q) = inTab k q) (h71 : ∀ Q, res_main_v71 V0 (ix2 E Q) = inTab k (half Q))
    (y : Fin 56 → Fin 256 → EReal) (h116 : ∀ Q c, res_main_v116 V0 (ix3 E Q c) = y Q c * on (inTab k (half Q))) (u : Fin 1) (c : Fin 768) :
    ref2 V0 (ix3 E u c) = agg y (fun Q => inTab k (half Q)) (2 * cnt (inTab k)) c := by
  unfold ref2 res_main_v133
  generalize res_main_v56 V0 = M at h56 ⊢
  generalize res_main_v71 V0 = n at h71 ⊢
  generalize res_main_v116 V0 = z at h116 ⊢
  clean_types
  pointwise
  simp only [h56, h71, h116, ofBits_neg_inf, ofBits_two, uitofp_bit, select_mul_on]
  simp only [mul_on_on, neg_inf_apply, agg, cnt]

end Cert.DeepSet

end
-- ==== Proof.Final.lean ====
/- The kernel's and the reference's results are equal, from memories that agree on the arguments and meet the precondition. -/
module

public import proofs.«01_k».proof.Defs
public import proofs.«01_k».proof.Proof.KernelRun
public import proofs.«01_k».proof.Proof.Pre
public import proofs.«01_k».proof.Proof.Equal
public import proofs.«01_k».proof.Proof.RefOut

@[expose] public section

set_option maxRecDepth 16384

noncomputable section

namespace Cert.DeepSet

open Idealize.ShloMosaic Idealize.SL.Sem Idealize.ShloMosaic.StableHlo

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)

/-- The reference's arguments at the launch are the kernel's. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)

/-- The reference's results, as functions of its arguments, are the kernel's. -/
theorem results_eq (c : Dev Cert.KernelIdeal.nD) (hpre : Cert.Pre_KernelIdeal_well_formed m) (ha : Agree m m' c) :
    ref1 (launchContents m' c) = res1 m c ∧ ref2 (launchContents m' c) = res2 m c := by
  obtain ⟨e0, e1, e2, e3, e4, e5, e6, e7, e8, e9, e10, e11, e12, e13, e14, e15, e16, e17, e18, e19⟩ := ha
  obtain ⟨p0, p1, p2, p3, p4, p5, p6, p7, p8, p9, p10, p11, p12, p13, p14, p15, p16, p17, pn, pt⟩ := pre_spec _ _ _ _ _ _ _ _ _ _ _ _ _ _ _ _ _ _ _ _ (hpre c)
  replace e0 : launchContents m' c (Proc.devRef .tc Cert.ReferenceIdeal.main_arg0) = m ((c.tc : Thread Cert.KernelIdeal.nD Cert.KernelIdeal.τ).loc Cert.KernelIdeal.main_arg0) := e0
  replace e1 : launchContents m' c (Proc.devRef .tc Cert.ReferenceIdeal.main_arg1) = m ((c.tc : Thread Cert.KernelIdeal.nD Cert.KernelIdeal.τ).loc Cert.KernelIdeal.main_arg1) := e1
  replace e2 : launchContents m' c (Proc.devRef .tc Cert.ReferenceIdeal.main_arg2) = m ((c.tc : Thread Cert.KernelIdeal.nD Cert.KernelIdeal.τ).loc Cert.KernelIdeal.main_arg2) := e2
  replace e3 : launchContents m' c (Proc.devRef .tc Cert.ReferenceIdeal.main_arg3) = m ((c.tc : Thread Cert.KernelIdeal.nD Cert.KernelIdeal.τ).loc Cert.KernelIdeal.main_arg3) := e3
  replace e4 : launchContents m' c (Proc.devRef .tc Cert.ReferenceIdeal.main_arg4) = m ((c.tc : Thread Cert.KernelIdeal.nD Cert.KernelIdeal.τ).loc Cert.KernelIdeal.main_arg4) := e4
  replace e5 : launchContents m' c (Proc.devRef .tc Cert.ReferenceIdeal.main_arg5) = m ((c.tc : Thread Cert.KernelIdeal.nD Cert.KernelIdeal.τ).loc Cert.KernelIdeal.main_arg5) := e5
  replace e6 : launchContents m' c (Proc.devRef .tc Cert.ReferenceIdeal.main_arg6) = m ((c.tc : Thread Cert.KernelIdeal.nD Cert.KernelIdeal.τ).loc Cert.KernelIdeal.main_arg6) := e6
  replace e7 : launchContents m' c (Proc.devRef .tc Cert.ReferenceIdeal.main_arg7) = m ((c.tc : Thread Cert.KernelIdeal.nD Cert.KernelIdeal.τ).loc Cert.KernelIdeal.main_arg7) := e7
  replace e8 : launchContents m' c (Proc.devRef .tc Cert.ReferenceIdeal.main_arg8) = m ((c.tc : Thread Cert.KernelIdeal.nD Cert.KernelIdeal.τ).loc Cert.KernelIdeal.main_arg8) := e8
  replace e9 : launchContents m' c (Proc.devRef .tc Cert.ReferenceIdeal.main_arg9) = m ((c.tc : Thread Cert.KernelIdeal.nD Cert.KernelIdeal.τ).loc Cert.KernelIdeal.main_arg9) := e9
  replace e10 : launchContents m' c (Proc.devRef .tc Cert.ReferenceIdeal.main_arg10) = m ((c.tc : Thread Cert.KernelIdeal.nD Cert.KernelIdeal.τ).loc Cert.KernelIdeal.main_arg10) := e10
  replace e11 : launchContents m' c (Proc.devRef .tc Cert.ReferenceIdeal.main_arg11) = m ((c.tc : Thread Cert.KernelIdeal.nD Cert.KernelIdeal.τ).loc Cert.KernelIdeal.main_arg11) := e11
  replace e12 : launchContents m' c (Proc.devRef .tc Cert.ReferenceIdeal.main_arg12) = m ((c.tc : Thread Cert.KernelIdeal.nD Cert.KernelIdeal.τ).loc Cert.KernelIdeal.main_arg12) := e12
  replace e13 : launchContents m' c (Proc.devRef .tc Cert.ReferenceIdeal.main_arg13) = m ((c.tc : Thread Cert.KernelIdeal.nD Cert.KernelIdeal.τ).loc Cert.KernelIdeal.main_arg13) := e13
  replace e14 : launchContents m' c (Proc.devRef .tc Cert.ReferenceIdeal.main_arg14) = m ((c.tc : Thread Cert.KernelIdeal.nD Cert.KernelIdeal.τ).loc Cert.KernelIdeal.main_arg14) := e14
  replace e15 : launchContents m' c (Proc.devRef .tc Cert.ReferenceIdeal.main_arg15) = m ((c.tc : Thread Cert.KernelIdeal.nD Cert.KernelIdeal.τ).loc Cert.KernelIdeal.main_arg15) := e15
  replace e16 : launchContents m' c (Proc.devRef .tc Cert.ReferenceIdeal.main_arg16) = m ((c.tc : Thread Cert.KernelIdeal.nD Cert.KernelIdeal.τ).loc Cert.KernelIdeal.main_arg16) := e16
  replace e17 : launchContents m' c (Proc.devRef .tc Cert.ReferenceIdeal.main_arg17) = m ((c.tc : Thread Cert.KernelIdeal.nD Cert.KernelIdeal.τ).loc Cert.KernelIdeal.main_arg17) := e17
  replace e18 : launchContents m' c (Proc.devRef .tc Cert.ReferenceIdeal.main_arg18) = m ((c.tc : Thread Cert.KernelIdeal.nD Cert.KernelIdeal.τ).loc Cert.KernelIdeal.main_arg18) := e18
  replace e19 : launchContents m' c (Proc.devRef .tc Cert.ReferenceIdeal.main_arg19) = m ((c.tc : Thread Cert.KernelIdeal.nD Cert.KernelIdeal.τ).loc Cert.KernelIdeal.main_arg19) := e19
  have hR : (raw (launchContents m' c)).Real := ⟨fin2_of _ fun k j => by obtain ⟨r, hr⟩ := p1 (ix2 k j); exact ⟨r, (congrFun e1 _).trans hr⟩,
    fin1_of _ fun j => by obtain ⟨r, hr⟩ := p4 (ix1 j); exact ⟨r, (congrFun e4 _).trans hr⟩,
    fin1_of _ fun j => by obtain ⟨r, hr⟩ := p5 (ix1 j); exact ⟨r, (congrFun e5 _).trans hr⟩,
    fin2_of _ fun k j => by obtain ⟨r, hr⟩ := p2 (ix2 k j); exact ⟨r, (congrFun e2 _).trans hr⟩,
    fin1_of _ fun j => by obtain ⟨r, hr⟩ := p6 (ix1 j); exact ⟨r, (congrFun e6 _).trans hr⟩,
    fin1_of _ fun j => by obtain ⟨r, hr⟩ := p7 (ix1 j); exact ⟨r, (congrFun e7 _).trans hr⟩,
    fin2_of _ fun k j => by obtain ⟨r, hr⟩ := p3 (ix2 k j); exact ⟨r, (congrFun e3 _).trans hr⟩,
    fin1_of _ fun j => by obtain ⟨r, hr⟩ := p8 (ix1 j); exact ⟨r, (congrFun e8 _).trans hr⟩,
    fin1_of _ fun j => by obtain ⟨r, hr⟩ := p9 (ix1 j); exact ⟨r, (congrFun e9 _).trans hr⟩,
    fin2_of _ fun k j => by obtain ⟨r, hr⟩ := p10 (ix2 k j); exact ⟨r, (congrFun e10 _).trans hr⟩,
    fin1_of _ fun j => by obtain ⟨r, hr⟩ := p13 (ix1 j); exact ⟨r, (congrFun e13 _).trans hr⟩,
    fin1_of _ fun j => by obtain ⟨r, hr⟩ := p14 (ix1 j); exact ⟨r, (congrFun e14 _).trans hr⟩,
    fin2_of _ fun k j => by obtain ⟨r, hr⟩ := p11 (ix2 k j); exact ⟨r, (congrFun e11 _).trans hr⟩,
    fin1_of _ fun j => by obtain ⟨r, hr⟩ := p15 (ix1 j); exact ⟨r, (congrFun e15 _).trans hr⟩,
    fin1_of _ fun j => by obtain ⟨r, hr⟩ := p16 (ix1 j); exact ⟨r, (congrFun e16 _).trans hr⟩,
    fin2_of _ fun k j => by obtain ⟨r, hr⟩ := p12 (ix2 k j); exact ⟨r, (congrFun e12 _).trans hr⟩,
    fin1_of _ fun j => by obtain ⟨r, hr⟩ := p17 (ix1 j); exact ⟨r, (congrFun e17 _).trans hr⟩⟩
  have hN : scaled m c = (raw (launchContents m' c)).net := by
    unfold scaled raw Raw.net
    simp only [e0, e1, e2, e3, e4, e5, e6, e7, e8, e9, e10, e11, e12, e13, e14, e15, e16, e17, e18, e19]
  have hX : ∀ E, jets m c E = rows (launchContents m' c) E := by
    intro E
    funext j k
    exact (congrFun e0 _).symm
  have hF : ∀ E j, Fin1 (rows (launchContents m' c) E j) := fun E j => fin1_of _ fun k => by
    obtain ⟨r, hr⟩ := p0 (ix3 E j k)
    exact ⟨r, (congrFun e0 _).trans hr⟩
  have ht : ∀ k q s, launchContents m' c (Proc.devRef .tc Cert.ReferenceIdeal.main_arg19) (ix3 k q s) = tab k q s := fun k q s => (congrFun e19 _).trans (pt k q s)
  have hn : ∀ E, ∃ k : Fin 7, (cnt fun j => bit (rows (launchContents m' c) E j)) = ((((k + 2 : ℕ) : ℝ) : EReal)) := fun E => by
    rw [← hX E]
    exact count_cases _ (pn E)
  generalize launchContents m' c = V at hR hN hX hF ht hn ⊢
  constructor
  · funext i
    idx_vars i
    rw [ref1_apply]
    show _ = (scaled m c).out1 (jets m c i0) i2
    rw [hN, hX, out1_eq _ hR _ (hF i0)]
  · funext i
    idx_vars i
    obtain ⟨k, hk⟩ := hn i0
    have h52 := v52_apply V i0 k ((v8_apply V i0).trans hk) ht
    have h56 := v56_apply V i0 k h52
    have h71 := v71_apply V i0 k h56
    have h65 := v65_apply V i0 k (v63_apply V i0 k (v4_apply V i0 k (v61_apply V i0 k h52)))
    rw [ref2_apply V i0 k h56 h71 _ (v116_apply V i0 k h65 h71)]
    show _ = (scaled m c).out2 (jets m c i0) i2
    rw [hN, hX, out2_eq _ hR _ (hF i0) k hk]

theorem algebraic : Cert.algebraic_KernelIdeal_ReferenceIdeal_pre_well_formed := by
  intro m g m' g' hpre hargs
  refine ⟨res1 m, res2 m, kernel_run m g, (θ_run _ _ _).mono (fun r h c => ?_) (Cert.ReferenceIdeal.Value.run m' g')⟩
  obtain ⟨h1, h2, h3⟩ := h c
  obtain ⟨r1, r2⟩ := results_eq m m' c hpre (hargs c)
  exact ⟨h1.trans r1, h2.trans r2, h3⟩

end Cert.DeepSet

end
-- ==== Proof.lean ====
/- The proof of every claim: the frames, the idealization, and the equality of the kernel's and the reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_well_formed
public import Idealize.ShloMosaic.Adequacy
public import proofs.«01_k».proof.Proof.Gen.ReferenceIdeal.Run
public import Idealize.ShloMosaic.Init
public import Idealize.ShloMosaic.Lib.Quiescent
public import proofs.«01_k».proof.Proof.Final

@[expose] public section

noncomputable section

namespace Cert.Proof

open Idealize.ShloMosaic Idealize.SL.Sem Cert.Kernel

/-- The reference's run, read at its arguments; it declares no semaphore. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts, Cert.Pre_well_formed.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  trivial,
  Cert.DeepSet.algebraic⟩

end Cert.Proof

end
